-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v217)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v217) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S1024x8 : Shape := ⟨2, ![1024, 8]⟩
abbrev S8x1024x4096 : Shape := ⟨3, ![8, 1024, 4096]⟩
abbrev S8x4096x1024 : Shape := ⟨3, ![8, 4096, 1024]⟩
abbrev S1024x3072 : Shape := ⟨2, ![1024, 3072]⟩
abbrev S1x2048x3072 : Shape := ⟨3, ![1, 2048, 3072]⟩
abbrev S1x1x3072 : Shape := ⟨3, ![1, 1, 3072]⟩
abbrev S1x2048x16x64 : Shape := ⟨4, ![1, 2048, 16, 64]⟩
abbrev S1x16x2048x64 : Shape := ⟨4, ![1, 16, 2048, 64]⟩
abbrev S16x2048x64 : Shape := ⟨3, ![16, 2048, 64]⟩
abbrev S16x2048x2048 : Shape := ⟨3, ![16, 2048, 2048]⟩
abbrev S1x2048x64 : Shape := ⟨3, ![1, 2048, 64]⟩
abbrev S1x2048x2048 : Shape := ⟨3, ![1, 2048, 2048]⟩
abbrev S2048x64 : Shape := ⟨2, ![2048, 64]⟩
abbrev S2048x2048 : Shape := ⟨2, ![2048, 2048]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S1x1x1024 : Shape := ⟨3, ![1, 1, 1024]⟩
abbrev S1x2048 : Shape := ⟨2, ![1, 2048]⟩
abbrev S1x2048x1 : Shape := ⟨3, ![1, 2048, 1]⟩
abbrev S1x2048x4096 : Shape := ⟨3, ![1, 2048, 4096]⟩
abbrev S1x1x4096 : Shape := ⟨3, ![1, 1, 4096]⟩
abbrev S1x2048x8 : Shape := ⟨3, ![1, 2048, 8]⟩
abbrev S1x1x8 : Shape := ⟨3, ![1, 1, 8]⟩
abbrev S2048x1 : Shape := ⟨2, ![2048, 1]⟩
abbrev S1x2048x8x1 : Shape := ⟨4, ![1, 2048, 8, 1]⟩
abbrev S1x1x1x512 : Shape := ⟨4, ![1, 1, 1, 512]⟩
abbrev S1x2048x8x512 : Shape := ⟨4, ![1, 2048, 8, 512]⟩
abbrev S1x2048x1x1 : Shape := ⟨4, ![1, 2048, 1, 1]⟩
abbrev S1x8x512x1024 : Shape := ⟨4, ![1, 8, 512, 1024]⟩
abbrev S8x1x512x4096 : Shape := ⟨4, ![8, 1, 512, 4096]⟩
abbrev S1x8x512x4096 : Shape := ⟨4, ![1, 8, 512, 4096]⟩
abbrev S8x1x512x1024 : Shape := ⟨4, ![8, 1, 512, 1024]⟩

abbrev nBuf : Space → Nat
  | .hbm => 385
  | .vmem => 12
  | .smem => 0
  | _ => 0

abbrev hbmTy0_0 (i : Nat) : BufTy := match i % 128 with
  | 0 => ⟨S1x2048x1024, .f32⟩
  | 1 => ⟨S3072x1024, .f32⟩
  | 2 => ⟨S3072, .f32⟩
  | 3 => ⟨S1024x1024, .f32⟩
  | 4 => ⟨S1024, .f32⟩
  | 5 => ⟨S4096x1024, .f32⟩
  | 6 => ⟨S4096, .f32⟩
  | 7 => ⟨S1024x4096, .f32⟩
  | 8 => ⟨S1024, .f32⟩
  | 9 => ⟨S1024, .f32⟩
  | 10 => ⟨S1024, .f32⟩
  | 11 => ⟨S1024, .f32⟩
  | 12 => ⟨S1024, .f32⟩
  | 13 => ⟨S3072x1024, .f32⟩
  | 14 => ⟨S3072, .f32⟩
  | 15 => ⟨S1024x1024, .f32⟩
  | 16 => ⟨S1024, .f32⟩
  | 17 => ⟨S1024x8, .f32⟩
  | 18 => ⟨S8x1024x4096, .f32⟩
  | 19 => ⟨S8x4096x1024, .f32⟩
  | 20 => ⟨S1024, .f32⟩
  | 21 => ⟨S1024, .f32⟩
  | 22 => ⟨S1024, .f32⟩
  | 23 => ⟨S1024, .f32⟩
  | 24 => ⟨S1024x3072, .f32⟩
  | 25 => ⟨S1x2048x3072, .f32⟩
  | 26 => ⟨S1x1x3072, .f32⟩
  | 27 => ⟨S1x2048x3072, .f32⟩
  | 28 => ⟨S1x2048x3072, .f32⟩
  | 29 => ⟨S1x2048x1024, .f32⟩
  | 30 => ⟨S1x2048x1024, .f32⟩
  | 31 => ⟨S1x2048x1024, .f32⟩
  | 32 => ⟨S1x2048x16x64, .f32⟩
  | 33 => ⟨S1x16x2048x64, .f32⟩
  | 34 => ⟨S1x2048x16x64, .f32⟩
  | 35 => ⟨S1x16x2048x64, .f32⟩
  | 36 => ⟨S1x2048x16x64, .f32⟩
  | 37 => ⟨S1x16x2048x64, .f32⟩
  | 38 => ⟨S16x2048x64, .f32⟩
  | 39 => ⟨S16x2048x64, .f32⟩
  | 40 => ⟨S16x2048x2048, .f32⟩
  | 41 => ⟨S1x16x2048x2048, .f32⟩
  | 42 => ⟨S_, .f32⟩
  | 43 => ⟨S1x16x2048, .f32⟩
  | 44 => ⟨S_, .f32⟩
  | 45 => ⟨S1x16x2048, .f32⟩
  | 46 => ⟨S1x16x2048, .f32⟩
  | 47 => ⟨S1x16x2048x1, .f32⟩
  | 48 => ⟨S1x16x2048x2048, .f32⟩
  | 49 => ⟨S1x16x2048x2048, .f32⟩
  | 50 => ⟨S1x16x2048x2048, .f32⟩
  | 51 => ⟨S_, .f32⟩
  | 52 => ⟨S1x16x2048, .f32⟩
  | 53 => ⟨S1x16x2048x1, .f32⟩
  | 54 => ⟨S1x16x2048x2048, .f32⟩
  | 55 => ⟨S1x16x2048x2048, .f32⟩
  | 56 => ⟨S16x2048x2048, .f32⟩
  | 57 => ⟨S16x2048x64, .f32⟩
  | 58 => ⟨S16x2048x64, .f32⟩
  | 59 => ⟨S1x16x2048x64, .f32⟩
  | 60 => ⟨S1x2048x16x64, .f32⟩
  | 61 => ⟨S1x2048x1024, .f32⟩
  | 62 => ⟨S1024x1024, .f32⟩
  | 63 => ⟨S1x2048x1024, .f32⟩
  | 64 => ⟨S1x1x1024, .f32⟩
  | 65 => ⟨S1x2048x1024, .f32⟩
  | 66 => ⟨S1x2048x1024, .f32⟩
  | 67 => ⟨S1x2048x1024, .f32⟩
  | 68 => ⟨S_, .f32⟩
  | 69 => ⟨S1x2048, .f32⟩
  | 70 => ⟨S1x2048x1, .f32⟩
  | 71 => ⟨S_, .f32⟩
  | 72 => ⟨S1x2048x1, .f32⟩
  | 73 => ⟨S1x2048x1, .f32⟩
  | 74 => ⟨S_, .i32⟩
  | 75 => ⟨S_, .f32⟩
  | 76 => ⟨S1x2048, .f32⟩
  | 77 => ⟨S1x2048x1, .f32⟩
  | 78 => ⟨S_, .f32⟩
  | 79 => ⟨S1x2048x1, .f32⟩
  | 80 => ⟨S1x2048x1, .f32⟩
  | 81 => ⟨S1x2048x1024, .f32⟩
  | 82 => ⟨S1x2048x1024, .f32⟩
  | 83 => ⟨S1x2048x1024, .f32⟩
  | 84 => ⟨S_, .f32⟩
  | 85 => ⟨S_, .f32⟩
  | 86 => ⟨S_, .f32⟩
  | 87 => ⟨S_, .f32⟩
  | 88 => ⟨S1x2048, .f32⟩
  | 89 => ⟨S1x2048x1, .f32⟩
  | 90 => ⟨S1x2048x1, .f32⟩
  | 91 => ⟨S1x2048x1, .f32⟩
  | 92 => ⟨S_, .f32⟩
  | 93 => ⟨S_, .i1⟩
  | 94 => ⟨S_, .f32⟩
  | 95 => ⟨S_, .f32⟩
  | 96 => ⟨S1x2048x1, .f32⟩
  | 97 => ⟨S1x2048x1, .f32⟩
  | 98 => ⟨S1x2048x1024, .f32⟩
  | 99 => ⟨S1x2048x1024, .f32⟩
  | 100 => ⟨S_, .f32⟩
  | 101 => ⟨S1x2048x1, .f32⟩
  | 102 => ⟨S1x2048x1, .f32⟩
  | 103 => ⟨S1x2048x1, .f32⟩
  | 104 => ⟨S1x2048x1024, .f32⟩
  | 105 => ⟨S1x2048x1024, .f32⟩
  | 106 => ⟨S1x1x1024, .f32⟩
  | 107 => ⟨S1x2048x1024, .f32⟩
  | 108 => ⟨S1x2048x1024, .f32⟩
  | 109 => ⟨S1x1x1024, .f32⟩
  | 110 => ⟨S1x2048x1024, .f32⟩
  | 111 => ⟨S1x2048x1024, .f32⟩
  | 112 => ⟨S1024x4096, .f32⟩
  | 113 => ⟨S1x2048x4096, .f32⟩
  | 114 => ⟨S1x1x4096, .f32⟩
  | 115 => ⟨S1x2048x4096, .f32⟩
  | 116 => ⟨S1x2048x4096, .f32⟩
  | 117 => ⟨S_, .f32⟩
  | 118 => ⟨S1x2048x4096, .f32⟩
  | 119 => ⟨S1x2048x4096, .f32⟩
  | 120 => ⟨S4096x1024, .f32⟩
  | 121 => ⟨S1x2048x1024, .f32⟩
  | 122 => ⟨S1x1x1024, .f32⟩
  | 123 => ⟨S1x2048x1024, .f32⟩
  | 124 => ⟨S1x2048x1024, .f32⟩
  | 125 => ⟨S1x2048x1024, .f32⟩
  | 126 => ⟨S_, .f32⟩
  | 127 => ⟨S1x2048, .f32⟩
  | _ => ⟨S1x2048x1024, .f32⟩

abbrev hbmTy0_1 (i : Nat) : BufTy := match i % 128 with
  | 0 => ⟨S1x2048x1, .f32⟩
  | 1 => ⟨S_, .f32⟩
  | 2 => ⟨S1x2048x1, .f32⟩
  | 3 => ⟨S1x2048x1, .f32⟩
  | 4 => ⟨S_, .i32⟩
  | 5 => ⟨S_, .f32⟩
  | 6 => ⟨S1x2048, .f32⟩
  | 7 => ⟨S1x2048x1, .f32⟩
  | 8 => ⟨S_, .f32⟩
  | 9 => ⟨S1x2048x1, .f32⟩
  | 10 => ⟨S1x2048x1, .f32⟩
  | 11 => ⟨S1x2048x1024, .f32⟩
  | 12 => ⟨S1x2048x1024, .f32⟩
  | 13 => ⟨S1x2048x1024, .f32⟩
  | 14 => ⟨S_, .f32⟩
  | 15 => ⟨S_, .f32⟩
  | 16 => ⟨S_, .f32⟩
  | 17 => ⟨S_, .f32⟩
  | 18 => ⟨S1x2048, .f32⟩
  | 19 => ⟨S1x2048x1, .f32⟩
  | 20 => ⟨S1x2048x1, .f32⟩
  | 21 => ⟨S1x2048x1, .f32⟩
  | 22 => ⟨S_, .f32⟩
  | 23 => ⟨S_, .i1⟩
  | 24 => ⟨S_, .f32⟩
  | 25 => ⟨S_, .f32⟩
  | 26 => ⟨S1x2048x1, .f32⟩
  | 27 => ⟨S1x2048x1, .f32⟩
  | 28 => ⟨S1x2048x1024, .f32⟩
  | 29 => ⟨S1x2048x1024, .f32⟩
  | 30 => ⟨S_, .f32⟩
  | 31 => ⟨S1x2048x1, .f32⟩
  | 32 => ⟨S1x2048x1, .f32⟩
  | 33 => ⟨S1x2048x1, .f32⟩
  | 34 => ⟨S1x2048x1024, .f32⟩
  | 35 => ⟨S1x2048x1024, .f32⟩
  | 36 => ⟨S1x1x1024, .f32⟩
  | 37 => ⟨S1x2048x1024, .f32⟩
  | 38 => ⟨S1x2048x1024, .f32⟩
  | 39 => ⟨S1x1x1024, .f32⟩
  | 40 => ⟨S1x2048x1024, .f32⟩
  | 41 => ⟨S1x2048x1024, .f32⟩
  | 42 => ⟨S1024x3072, .f32⟩
  | 43 => ⟨S1x2048x3072, .f32⟩
  | 44 => ⟨S1x1x3072, .f32⟩
  | 45 => ⟨S1x2048x3072, .f32⟩
  | 46 => ⟨S1x2048x3072, .f32⟩
  | 47 => ⟨S1x2048x1024, .f32⟩
  | 48 => ⟨S1x2048x1024, .f32⟩
  | 49 => ⟨S1x2048x1024, .f32⟩
  | 50 => ⟨S1x2048x16x64, .f32⟩
  | 51 => ⟨S1x16x2048x64, .f32⟩
  | 52 => ⟨S1x2048x16x64, .f32⟩
  | 53 => ⟨S1x16x2048x64, .f32⟩
  | 54 => ⟨S1x2048x16x64, .f32⟩
  | 55 => ⟨S1x16x2048x64, .f32⟩
  | 56 => ⟨S16x2048x64, .f32⟩
  | 57 => ⟨S16x2048x64, .f32⟩
  | 58 => ⟨S16x2048x2048, .f32⟩
  | 59 => ⟨S1x16x2048x2048, .f32⟩
  | 60 => ⟨S_, .f32⟩
  | 61 => ⟨S1x16x2048, .f32⟩
  | 62 => ⟨S_, .f32⟩
  | 63 => ⟨S1x16x2048, .f32⟩
  | 64 => ⟨S1x16x2048, .f32⟩
  | 65 => ⟨S1x16x2048x1, .f32⟩
  | 66 => ⟨S1x16x2048x2048, .f32⟩
  | 67 => ⟨S1x16x2048x2048, .f32⟩
  | 68 => ⟨S1x16x2048x2048, .f32⟩
  | 69 => ⟨S_, .f32⟩
  | 70 => ⟨S1x16x2048, .f32⟩
  | 71 => ⟨S1x16x2048x1, .f32⟩
  | 72 => ⟨S1x16x2048x2048, .f32⟩
  | 73 => ⟨S1x16x2048x2048, .f32⟩
  | 74 => ⟨S16x2048x2048, .f32⟩
  | 75 => ⟨S16x2048x64, .f32⟩
  | 76 => ⟨S16x2048x64, .f32⟩
  | 77 => ⟨S1x16x2048x64, .f32⟩
  | 78 => ⟨S1x2048x16x64, .f32⟩
  | 79 => ⟨S1x2048x1024, .f32⟩
  | 80 => ⟨S1024x1024, .f32⟩
  | 81 => ⟨S1x2048x1024, .f32⟩
  | 82 => ⟨S1x1x1024, .f32⟩
  | 83 => ⟨S1x2048x1024, .f32⟩
  | 84 => ⟨S1x2048x1024, .f32⟩
  | 85 => ⟨S1x2048x1024, .f32⟩
  | 86 => ⟨S_, .f32⟩
  | 87 => ⟨S1x2048, .f32⟩
  | 88 => ⟨S1x2048x1, .f32⟩
  | 89 => ⟨S_, .f32⟩
  | 90 => ⟨S1x2048x1, .f32⟩
  | 91 => ⟨S1x2048x1, .f32⟩
  | 92 => ⟨S_, .i32⟩
  | 93 => ⟨S_, .f32⟩
  | 94 => ⟨S1x2048, .f32⟩
  | 95 => ⟨S1x2048x1, .f32⟩
  | 96 => ⟨S_, .f32⟩
  | 97 => ⟨S1x2048x1, .f32⟩
  | 98 => ⟨S1x2048x1, .f32⟩
  | 99 => ⟨S1x2048x1024, .f32⟩
  | 100 => ⟨S1x2048x1024, .f32⟩
  | 101 => ⟨S1x2048x1024, .f32⟩
  | 102 => ⟨S_, .f32⟩
  | 103 => ⟨S_, .f32⟩
  | 104 => ⟨S_, .f32⟩
  | 105 => ⟨S_, .f32⟩
  | 106 => ⟨S1x2048, .f32⟩
  | 107 => ⟨S1x2048x1, .f32⟩
  | 108 => ⟨S1x2048x1, .f32⟩
  | 109 => ⟨S1x2048x1, .f32⟩
  | 110 => ⟨S_, .f32⟩
  | 111 => ⟨S_, .i1⟩
  | 112 => ⟨S_, .f32⟩
  | 113 => ⟨S_, .f32⟩
  | 114 => ⟨S1x2048x1, .f32⟩
  | 115 => ⟨S1x2048x1, .f32⟩
  | 116 => ⟨S1x2048x1024, .f32⟩
  | 117 => ⟨S1x2048x1024, .f32⟩
  | 118 => ⟨S_, .f32⟩
  | 119 => ⟨S1x2048x1, .f32⟩
  | 120 => ⟨S1x2048x1, .f32⟩
  | 121 => ⟨S1x2048x1, .f32⟩
  | 122 => ⟨S1x2048x1024, .f32⟩
  | 123 => ⟨S1x2048x1024, .f32⟩
  | 124 => ⟨S1x1x1024, .f32⟩
  | 125 => ⟨S1x2048x1024, .f32⟩
  | 126 => ⟨S1x2048x1024, .f32⟩
  | 127 => ⟨S1x1x1024, .f32⟩
  | _ => ⟨S1x2048x1024, .f32⟩

abbrev hbmTy0_2 (i : Nat) : BufTy := match i % 128 with
  | 0 => ⟨S1x2048x1024, .f32⟩
  | 1 => ⟨S1x2048x1024, .f32⟩
  | 2 => ⟨S1x2048x8, .f32⟩
  | 3 => ⟨S_, .f32⟩
  | 4 => ⟨S1x2048, .f32⟩
  | 5 => ⟨S_, .f32⟩
  | 6 => ⟨S1x2048, .f32⟩
  | 7 => ⟨S1x2048, .f32⟩
  | 8 => ⟨S1x2048x1, .f32⟩
  | 9 => ⟨S1x2048x8, .f32⟩
  | 10 => ⟨S1x2048x8, .f32⟩
  | 11 => ⟨S1x2048x8, .f32⟩
  | 12 => ⟨S_, .f32⟩
  | 13 => ⟨S1x2048, .f32⟩
  | 14 => ⟨S1x2048x1, .f32⟩
  | 15 => ⟨S1x2048x8, .f32⟩
  | 16 => ⟨S1x2048x8, .f32⟩
  | 17 => ⟨S_, .f32⟩
  | 18 => ⟨S1x2048, .f32⟩
  | 19 => ⟨S1x2048x8, .i32⟩
  | 20 => ⟨S_, .f32⟩
  | 21 => ⟨S_, .i32⟩
  | 22 => ⟨S1x2048, .f32⟩
  | 23 => ⟨S1x2048, .i32⟩
  | 24 => ⟨S1x2048x1, .i32⟩
  | 25 => ⟨S1x1x8, .i32⟩
  | 26 => ⟨S1x2048x8, .i32⟩
  | 27 => ⟨S1x2048x8, .i32⟩
  | 28 => ⟨S1x2048x8, .i1⟩
  | 29 => ⟨S1x2048x8, .i32⟩
  | 30 => ⟨S_, .i32⟩
  | 31 => ⟨S_, .i32⟩
  | 32 => ⟨S1x2048x8, .i32⟩
  | 33 => ⟨S1x2048x8, .i32⟩
  | 34 => ⟨S_, .i32⟩
  | 35 => ⟨S1x2048x8, .i32⟩
  | 36 => ⟨S1x2048x8, .i1⟩
  | 37 => ⟨S1x2048x8, .i32⟩
  | 38 => ⟨S1x2048x8, .i32⟩
  | 39 => ⟨S1x2048x8, .i32⟩
  | 40 => ⟨S_, .i32⟩
  | 41 => ⟨S1x2048, .i32⟩
  | 42 => ⟨S1x2048, .f32⟩
  | 43 => ⟨S_, .i32⟩
  | 44 => ⟨S1x2048, .i32⟩
  | 45 => ⟨S_, .i32⟩
  | 46 => ⟨S1x2048, .i32⟩
  | 47 => ⟨S1x2048, .i32⟩
  | 48 => ⟨S1x2048, .i32⟩
  | 49 => ⟨S2048x1, .i32⟩
  | 50 => ⟨S1x2048x1, .i32⟩
  | 51 => ⟨S1x1x8, .i32⟩
  | 52 => ⟨S1x2048x8, .i32⟩
  | 53 => ⟨S1x2048x8, .i32⟩
  | 54 => ⟨S1x2048x8, .i1⟩
  | 55 => ⟨S1x2048x8, .f32⟩
  | 56 => ⟨S1x2048x8x1, .i32⟩
  | 57 => ⟨S1x1x1x512, .i32⟩
  | 58 => ⟨S1x2048x8x512, .i32⟩
  | 59 => ⟨S1x2048x8x512, .i32⟩
  | 60 => ⟨S1x2048x8x512, .i1⟩
  | 61 => ⟨S1x2048x8x512, .f32⟩
  | 62 => ⟨S1x2048, .f32⟩
  | 63 => ⟨S1x2048x1x1, .f32⟩
  | 64 => ⟨S1x2048x8x1, .f32⟩
  | 65 => ⟨S1x2048x8x1, .f32⟩
  | 66 => ⟨S1x2048x8x1, .f32⟩
  | 67 => ⟨S1x2048x8x512, .f32⟩
  | 68 => ⟨S1x2048x8x512, .f32⟩
  | 69 => ⟨S_, .f32⟩
  | 70 => ⟨S1x2048x8x512, .f32⟩
  | 71 => ⟨S1x2048x8x512, .i1⟩
  | 72 => ⟨S1x2048x8x512, .f32⟩
  | 73 => ⟨S1x8x512x1024, .f32⟩
  | 74 => ⟨S8x1x512x4096, .f32⟩
  | 75 => ⟨S1x8x512x4096, .f32⟩
  | 76 => ⟨S_, .f32⟩
  | 77 => ⟨S1x8x512x4096, .f32⟩
  | 78 => ⟨S1x8x512x4096, .f32⟩
  | 79 => ⟨S8x1x512x1024, .f32⟩
  | 80 => ⟨S1x8x512x1024, .f32⟩
  | 81 => ⟨S1x2048x1024, .f32⟩
  | 82 => ⟨S1x2048x1024, .f32⟩
  | 83 => ⟨S_, .f32⟩
  | 84 => ⟨S1x2048, .f32⟩
  | 85 => ⟨S1x2048x1, .f32⟩
  | 86 => ⟨S_, .f32⟩
  | 87 => ⟨S1x2048x1, .f32⟩
  | 88 => ⟨S1x2048x1, .f32⟩
  | 89 => ⟨S_, .i32⟩
  | 90 => ⟨S_, .f32⟩
  | 91 => ⟨S1x2048, .f32⟩
  | 92 => ⟨S1x2048x1, .f32⟩
  | 93 => ⟨S_, .f32⟩
  | 94 => ⟨S1x2048x1, .f32⟩
  | 95 => ⟨S1x2048x1, .f32⟩
  | 96 => ⟨S1x2048x1024, .f32⟩
  | 97 => ⟨S1x2048x1024, .f32⟩
  | 98 => ⟨S1x2048x1024, .f32⟩
  | 99 => ⟨S_, .f32⟩
  | 100 => ⟨S_, .f32⟩
  | 101 => ⟨S_, .f32⟩
  | 102 => ⟨S_, .f32⟩
  | 103 => ⟨S1x2048, .f32⟩
  | 104 => ⟨S1x2048x1, .f32⟩
  | 105 => ⟨S1x2048x1, .f32⟩
  | 106 => ⟨S1x2048x1, .f32⟩
  | 107 => ⟨S_, .f32⟩
  | 108 => ⟨S_, .i1⟩
  | 109 => ⟨S_, .f32⟩
  | 110 => ⟨S_, .f32⟩
  | 111 => ⟨S1x2048x1, .f32⟩
  | 112 => ⟨S1x2048x1, .f32⟩
  | 113 => ⟨S1x2048x1024, .f32⟩
  | 114 => ⟨S1x2048x1024, .f32⟩
  | 115 => ⟨S_, .f32⟩
  | 116 => ⟨S1x2048x1, .f32⟩
  | 117 => ⟨S1x2048x1, .f32⟩
  | 118 => ⟨S1x2048x1, .f32⟩
  | 119 => ⟨S1x2048x1024, .f32⟩
  | 120 => ⟨S1x2048x1024, .f32⟩
  | 121 => ⟨S1x1x1024, .f32⟩
  | 122 => ⟨S1x2048x1024, .f32⟩
  | 123 => ⟨S1x2048x1024, .f32⟩
  | 124 => ⟨S1x1x1024, .f32⟩
  | 125 => ⟨S1x2048x1024, .f32⟩
  | 126 => ⟨S1x2048x1024, .f32⟩
  | 127 => ⟨S_, .f32⟩
  | _ => ⟨S1x2048x1024, .f32⟩

abbrev hbmTy0_3 (i : Nat) : BufTy := match i % 128 with
  | 0 => ⟨S_, .f32⟩
  | _ => ⟨S1x2048x1024, .f32⟩

abbrev hbmTy (i : Nat) : BufTy := match i / 128 with
  | 0 => hbmTy0_0 i
  | 1 => hbmTy0_1 i
  | 2 => hbmTy0_2 i
  | 3 => hbmTy0_3 i
  | _ => ⟨S1x2048x1024, .f32⟩

abbrev bufTy : (tb : Table) → Fin (tcTables nBuf tb) → BufTy
  | .hbm, ⟨i, _⟩ => hbmTy i
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x2048, .f32⟩
  | .local _ .vmem, ⟨5, _⟩ => ⟨S1x2048x2048, .f32⟩
  | .local _ .vmem, ⟨6, _⟩ => ⟨S1x2048x64, .f32⟩
  | .local _ .vmem, ⟨7, _⟩ => ⟨S1x2048x64, .f32⟩
  | .local _ .vmem, ⟨8, _⟩ => ⟨S1x2048x64, .f32⟩
  | .local _ .vmem, ⟨9, _⟩ => ⟨S1x2048x64, .f32⟩
  | .local _ .vmem, ⟨10, _⟩ => ⟨S1x2048x2048, .f32⟩
  | .local _ .vmem, ⟨11, _⟩ => ⟨S1x2048x2048, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst : Ref sig .tc := ⟨.hbm, 42, rfl⟩
abbrev main_v18 : Ref sig .tc := ⟨.hbm, 43, rfl⟩
abbrev main_cst_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_1 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_2 : Ref sig .tc := ⟨.hbm, 68, rfl⟩
abbrev main_v41 : Ref sig .tc := ⟨.hbm, 69, rfl⟩
abbrev main_v42 : Ref sig .tc := ⟨.hbm, 70, rfl⟩
abbrev main_cst_3 : Ref sig .tc := ⟨.hbm, 71, rfl⟩
abbrev main_v43 : Ref sig .tc := ⟨.hbm, 72, rfl⟩
abbrev main_v44 : Ref sig .tc := ⟨.hbm, 73, rfl⟩
abbrev main_c : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_cst_1 : Ref sig .tc := ⟨.hbm, 85, rfl⟩
abbrev main_call0_v8 : Ref sig .tc := ⟨.hbm, 86, rfl⟩
abbrev main_call0_cst_2 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_call0_v12 : Ref sig .tc := ⟨.hbm, 91, rfl⟩
abbrev main_call0_cst_3 : Ref sig .tc := ⟨.hbm, 92, rfl⟩
abbrev main_call0_v13 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_cst_4 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_5 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_cst_6 : Ref sig .tc := ⟨.hbm, 126, rfl⟩
abbrev main_v72 : Ref sig .tc := ⟨.hbm, 127, rfl⟩
abbrev main_v73 : Ref sig .tc := ⟨.hbm, 128, rfl⟩
abbrev main_cst_7 : Ref sig .tc := ⟨.hbm, 129, rfl⟩
abbrev main_v74 : Ref sig .tc := ⟨.hbm, 130, rfl⟩
abbrev main_v75 : Ref sig .tc := ⟨.hbm, 131, rfl⟩
abbrev main_c_8 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_cst_0 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_call1_v5 : Ref sig .tc := ⟨.hbm, 140, rfl⟩
abbrev main_call1_v6 : Ref sig .tc := ⟨.hbm, 141, rfl⟩
abbrev main_call1_v7 : Ref sig .tc := ⟨.hbm, 142, rfl⟩
abbrev main_call1_cst_1 : Ref sig .tc := ⟨.hbm, 143, rfl⟩
abbrev main_call1_v8 : Ref sig .tc := ⟨.hbm, 144, rfl⟩
abbrev main_call1_cst_2 : Ref sig .tc := ⟨.hbm, 145, rfl⟩
abbrev main_call1_v9 : Ref sig .tc := ⟨.hbm, 146, rfl⟩
abbrev main_call1_v10 : Ref sig .tc := ⟨.hbm, 147, rfl⟩
abbrev main_call1_v11 : Ref sig .tc := ⟨.hbm, 148, rfl⟩
abbrev main_call1_v12 : Ref sig .tc := ⟨.hbm, 149, rfl⟩
abbrev main_call1_cst_3 : Ref sig .tc := ⟨.hbm, 150, rfl⟩
abbrev main_call1_v13 : Ref sig .tc := ⟨.hbm, 151, rfl⟩
abbrev main_call1_cst_4 : Ref sig .tc := ⟨.hbm, 152, rfl⟩
abbrev main_call1_call0_v0 : Ref sig .tc := ⟨.hbm, 153, rfl⟩
abbrev main_call1_call0_v1 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_cst_9 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_cst_10 : Ref sig .tc := ⟨.hbm, 188, rfl⟩
abbrev main_v108 : Ref sig .tc := ⟨.hbm, 189, rfl⟩
abbrev main_cst_11 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_cst_12 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_cst_13 : Ref sig .tc := ⟨.hbm, 214, rfl⟩
abbrev main_v131 : Ref sig .tc := ⟨.hbm, 215, rfl⟩
abbrev main_v132 : Ref sig .tc := ⟨.hbm, 216, rfl⟩
abbrev main_cst_14 : Ref sig .tc := ⟨.hbm, 217, rfl⟩
abbrev main_v133 : Ref sig .tc := ⟨.hbm, 218, rfl⟩
abbrev main_v134 : Ref sig .tc := ⟨.hbm, 219, rfl⟩
abbrev main_c_15 : Ref sig .tc := ⟨.hbm, 220, rfl⟩
abbrev main_call2_cst : Ref sig .tc := ⟨.hbm, 221, rfl⟩
abbrev main_call2_v0 : Ref sig .tc := ⟨.hbm, 222, rfl⟩
abbrev main_call2_v1 : Ref sig .tc := ⟨.hbm, 223, rfl⟩
abbrev main_call2_cst_0 : Ref sig .tc := ⟨.hbm, 224, rfl⟩
abbrev main_call2_v2 : Ref sig .tc := ⟨.hbm, 225, rfl⟩
abbrev main_call2_v3 : Ref sig .tc := ⟨.hbm, 226, rfl⟩
abbrev main_call2_v4 : Ref sig .tc := ⟨.hbm, 227, rfl⟩
abbrev main_call2_v5 : Ref sig .tc := ⟨.hbm, 228, rfl⟩
abbrev main_call2_v6 : Ref sig .tc := ⟨.hbm, 229, rfl⟩
abbrev main_call2_v7 : Ref sig .tc := ⟨.hbm, 230, rfl⟩
abbrev main_call2_cst_1 : Ref sig .tc := ⟨.hbm, 231, rfl⟩
abbrev main_call2_v8 : Ref sig .tc := ⟨.hbm, 232, rfl⟩
abbrev main_call2_cst_2 : Ref sig .tc := ⟨.hbm, 233, rfl⟩
abbrev main_call2_v9 : Ref sig .tc := ⟨.hbm, 234, rfl⟩
abbrev main_call2_v10 : Ref sig .tc := ⟨.hbm, 235, rfl⟩
abbrev main_call2_v11 : Ref sig .tc := ⟨.hbm, 236, rfl⟩
abbrev main_call2_v12 : Ref sig .tc := ⟨.hbm, 237, rfl⟩
abbrev main_call2_cst_3 : Ref sig .tc := ⟨.hbm, 238, rfl⟩
abbrev main_call2_v13 : Ref sig .tc := ⟨.hbm, 239, rfl⟩
abbrev main_call2_cst_4 : Ref sig .tc := ⟨.hbm, 240, rfl⟩
abbrev main_call2_call0_v0 : Ref sig .tc := ⟨.hbm, 241, rfl⟩
abbrev main_call2_call0_v1 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_cst_16 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_cst_17 : Ref sig .tc := ⟨.hbm, 259, rfl⟩
abbrev main_v150 : Ref sig .tc := ⟨.hbm, 260, rfl⟩
abbrev main_cst_18 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_v155 : Ref sig .tc := ⟨.hbm, 266, rfl⟩
abbrev main_v156 : Ref sig .tc := ⟨.hbm, 267, rfl⟩
abbrev main_cst_19 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_cst_20 : Ref sig .tc := ⟨.hbm, 273, rfl⟩
abbrev main_v161 : Ref sig .tc := ⟨.hbm, 274, rfl⟩
abbrev main_call3_v0 : Ref sig .tc := ⟨.hbm, 275, rfl⟩
abbrev main_call3_cst : Ref sig .tc := ⟨.hbm, 276, rfl⟩
abbrev main_call3_c : Ref sig .tc := ⟨.hbm, 277, rfl⟩
abbrev main_call3_v1_0 : Ref sig .tc := ⟨.hbm, 278, rfl⟩
abbrev main_v162 : Ref sig .tc := ⟨.hbm, 279, rfl⟩
abbrev main_call4_v0 : Ref sig .tc := ⟨.hbm, 280, rfl⟩
abbrev main_call4_v1 : Ref sig .tc := ⟨.hbm, 281, rfl⟩
abbrev main_call4_v2 : Ref sig .tc := ⟨.hbm, 282, rfl⟩
abbrev main_call4_v3 : Ref sig .tc := ⟨.hbm, 283, rfl⟩
abbrev main_call4_v4 : Ref sig .tc := ⟨.hbm, 284, rfl⟩
abbrev main_v163 : Ref sig .tc := ⟨.hbm, 285, rfl⟩
abbrev main_call5_call0_c : Ref sig .tc := ⟨.hbm, 286, rfl⟩
abbrev main_call5_call0_v0 : Ref sig .tc := ⟨.hbm, 287, rfl⟩
abbrev main_v164 : Ref sig .tc := ⟨.hbm, 288, rfl⟩
abbrev main_v165 : Ref sig .tc := ⟨.hbm, 289, rfl⟩
abbrev main_c_21 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_c_22 : Ref sig .tc := ⟨.hbm, 296, rfl⟩
abbrev main_v171 : Ref sig .tc := ⟨.hbm, 297, rfl⟩
abbrev main_v172 : Ref sig .tc := ⟨.hbm, 298, rfl⟩
abbrev main_c_23 : Ref sig .tc := ⟨.hbm, 299, rfl⟩
abbrev main_v173 : Ref sig .tc := ⟨.hbm, 300, rfl⟩
abbrev main_c_24 : Ref sig .tc := ⟨.hbm, 301, rfl⟩
abbrev main_v174 : Ref sig .tc := ⟨.hbm, 302, rfl⟩
abbrev main_v175 : Ref sig .tc := ⟨.hbm, 303, rfl⟩
abbrev main_v176 : Ref sig .tc := ⟨.hbm, 304, rfl⟩
abbrev main_v177 : Ref sig .tc := ⟨.hbm, 305, rfl⟩
abbrev main_call6_v0 : Ref sig .tc := ⟨.hbm, 306, rfl⟩
abbrev main_call6_v1 : Ref sig .tc := ⟨.hbm, 307, rfl⟩
abbrev main_call6_v2 : Ref sig .tc := ⟨.hbm, 308, rfl⟩
abbrev main_call6_v3 : Ref sig .tc := ⟨.hbm, 309, rfl⟩
abbrev main_call6_v4 : Ref sig .tc := ⟨.hbm, 310, rfl⟩
abbrev main_v178 : Ref sig .tc := ⟨.hbm, 311, rfl⟩
abbrev main_call7_v0 : Ref sig .tc := ⟨.hbm, 312, rfl⟩
abbrev main_call7_v1 : Ref sig .tc := ⟨.hbm, 313, rfl⟩
abbrev main_call7_v2 : Ref sig .tc := ⟨.hbm, 314, rfl⟩
abbrev main_call7_v3 : Ref sig .tc := ⟨.hbm, 315, rfl⟩
abbrev main_call7_v4 : Ref sig .tc := ⟨.hbm, 316, rfl⟩
abbrev main_v179 : Ref sig .tc := ⟨.hbm, 317, rfl⟩
abbrev main_v180 : Ref sig .tc := ⟨.hbm, 318, rfl⟩
abbrev main_v181 : Ref sig .tc := ⟨.hbm, 319, rfl⟩
abbrev main_v182 : Ref sig .tc := ⟨.hbm, 320, rfl⟩
abbrev main_v183 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_cst_25 : Ref sig .tc := ⟨.hbm, 325, rfl⟩
abbrev main_v187 : Ref sig .tc := ⟨.hbm, 326, rfl⟩
abbrev main_v188 : Ref sig .tc := ⟨.hbm, 327, rfl⟩
abbrev main_v189 : Ref sig .tc := ⟨.hbm, 328, rfl⟩
abbrev main_v190 : Ref sig .tc := ⟨.hbm, 329, rfl⟩
abbrev main_v191 : Ref sig .tc := ⟨.hbm, 330, rfl⟩
abbrev main_v192 : Ref sig .tc := ⟨.hbm, 331, rfl⟩
abbrev main_cst_26 : Ref sig .tc := ⟨.hbm, 332, rfl⟩
abbrev main_v193 : Ref sig .tc := ⟨.hbm, 333, rfl⟩
abbrev main_v194 : Ref sig .tc := ⟨.hbm, 334, rfl⟩
abbrev main_v195 : Ref sig .tc := ⟨.hbm, 335, rfl⟩
abbrev main_v196 : Ref sig .tc := ⟨.hbm, 336, rfl⟩
abbrev main_v197 : Ref sig .tc := ⟨.hbm, 337, rfl⟩
abbrev main_v198 : Ref sig .tc := ⟨.hbm, 338, rfl⟩
abbrev main_cst_27 : Ref sig .tc := ⟨.hbm, 339, rfl⟩
abbrev main_v199 : Ref sig .tc := ⟨.hbm, 340, rfl⟩
abbrev main_v200 : Ref sig .tc := ⟨.hbm, 341, rfl⟩
abbrev main_cst_28 : Ref sig .tc := ⟨.hbm, 342, rfl⟩
abbrev main_v201 : Ref sig .tc := ⟨.hbm, 343, rfl⟩
abbrev main_v202 : Ref sig .tc := ⟨.hbm, 344, rfl⟩
abbrev main_c_29 : Ref sig .tc := ⟨.hbm, 345, rfl⟩
abbrev main_call8_cst : Ref sig .tc := ⟨.hbm, 346, rfl⟩
abbrev main_call8_v0 : Ref sig .tc := ⟨.hbm, 347, rfl⟩
abbrev main_call8_v1 : Ref sig .tc := ⟨.hbm, 348, rfl⟩
abbrev main_call8_cst_0 : Ref sig .tc := ⟨.hbm, 349, rfl⟩
abbrev main_call8_v2 : Ref sig .tc := ⟨.hbm, 350, rfl⟩
abbrev main_call8_v3 : Ref sig .tc := ⟨.hbm, 351, rfl⟩
abbrev main_call8_v4 : Ref sig .tc := ⟨.hbm, 352, rfl⟩
abbrev main_call8_v5 : Ref sig .tc := ⟨.hbm, 353, rfl⟩
abbrev main_call8_v6 : Ref sig .tc := ⟨.hbm, 354, rfl⟩
abbrev main_call8_v7 : Ref sig .tc := ⟨.hbm, 355, rfl⟩
abbrev main_call8_cst_1 : Ref sig .tc := ⟨.hbm, 356, rfl⟩
abbrev main_call8_v8 : Ref sig .tc := ⟨.hbm, 357, rfl⟩
abbrev main_call8_cst_2 : Ref sig .tc := ⟨.hbm, 358, rfl⟩
abbrev main_call8_v9 : Ref sig .tc := ⟨.hbm, 359, rfl⟩
abbrev main_call8_v10 : Ref sig .tc := ⟨.hbm, 360, rfl⟩
abbrev main_call8_v11 : Ref sig .tc := ⟨.hbm, 361, rfl⟩
abbrev main_call8_v12 : Ref sig .tc := ⟨.hbm, 362, rfl⟩
abbrev main_call8_cst_3 : Ref sig .tc := ⟨.hbm, 363, rfl⟩
abbrev main_call8_v13 : Ref sig .tc := ⟨.hbm, 364, rfl⟩
abbrev main_call8_cst_4 : Ref sig .tc := ⟨.hbm, 365, rfl⟩
abbrev main_call8_call0_v0 : Ref sig .tc := ⟨.hbm, 366, rfl⟩
abbrev main_call8_call0_v1 : Ref sig .tc := ⟨.hbm, 367, rfl⟩
abbrev main_v203 : Ref sig .tc := ⟨.hbm, 368, rfl⟩
abbrev main_v204 : Ref sig .tc := ⟨.hbm, 369, rfl⟩
abbrev main_v205 : Ref sig .tc := ⟨.hbm, 370, rfl⟩
abbrev main_cst_30 : Ref sig .tc := ⟨.hbm, 371, rfl⟩
abbrev main_v206 : Ref sig .tc := ⟨.hbm, 372, rfl⟩
abbrev main_v207 : Ref sig .tc := ⟨.hbm, 373, rfl⟩
abbrev main_v208 : Ref sig .tc := ⟨.hbm, 374, rfl⟩
abbrev main_v209 : Ref sig .tc := ⟨.hbm, 375, rfl⟩
abbrev main_v210 : Ref sig .tc := ⟨.hbm, 376, rfl⟩
abbrev main_v211 : Ref sig .tc := ⟨.hbm, 377, rfl⟩
abbrev main_v212 : Ref sig .tc := ⟨.hbm, 378, rfl⟩
abbrev main_v213 : Ref sig .tc := ⟨.hbm, 379, rfl⟩
abbrev main_v214 : Ref sig .tc := ⟨.hbm, 380, rfl⟩
abbrev main_v215 : Ref sig .tc := ⟨.hbm, 381, rfl⟩
abbrev main_v216 : Ref sig .tc := ⟨.hbm, 382, rfl⟩
abbrev main_cst_31 : Ref sig .tc := ⟨.hbm, 383, rfl⟩
abbrev main_v217 : Ref sig .tc := ⟨.hbm, 384, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S1x2048x1024 : Shape := ⟨3, ![1, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S1024x8 : Shape := ⟨2, ![1024, 8]⟩
abbrev S8x1024x4096 : Shape := ⟨3, ![8, 1024, 4096]⟩
abbrev S8x4096x1024 : Shape := ⟨3, ![8, 4096, 1024]⟩
abbrev S1024x3072 : Shape := ⟨2, ![1024, 3072]⟩
abbrev S1x2048x3072 : Shape := ⟨3, ![1, 2048, 3072]⟩
abbrev S1x1x3072 : Shape := ⟨3, ![1, 1, 3072]⟩
abbrev S1x2048x16x64 : Shape := ⟨4, ![1, 2048, 16, 64]⟩
abbrev S1x16x2048x64 : Shape := ⟨4, ![1, 16, 2048, 64]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S16x2048x2048 : Shape := ⟨3, ![16, 2048, 2048]⟩
abbrev S16x2048x64 : Shape := ⟨3, ![16, 2048, 64]⟩
abbrev S1x1x1024 : Shape := ⟨3, ![1, 1, 1024]⟩
abbrev S1x2048 : Shape := ⟨2, ![1, 2048]⟩
abbrev S1x2048x1 : Shape := ⟨3, ![1, 2048, 1]⟩
abbrev S1x2048x4096 : Shape := ⟨3, ![1, 2048, 4096]⟩
abbrev S1x1x4096 : Shape := ⟨3, ![1, 1, 4096]⟩
abbrev S1x2048x8 : Shape := ⟨3, ![1, 2048, 8]⟩
abbrev S1x1x8 : Shape := ⟨3, ![1, 1, 8]⟩
abbrev S2048x1 : Shape := ⟨2, ![2048, 1]⟩
abbrev S1x2048x8x1 : Shape := ⟨4, ![1, 2048, 8, 1]⟩
abbrev S1x1x1x512 : Shape := ⟨4, ![1, 1, 1, 512]⟩
abbrev S1x2048x8x512 : Shape := ⟨4, ![1, 2048, 8, 512]⟩
abbrev S1x2048x1x1 : Shape := ⟨4, ![1, 2048, 1, 1]⟩
abbrev S1x8x512x1024 : Shape := ⟨4, ![1, 8, 512, 1024]⟩
abbrev S8x1x512x4096 : Shape := ⟨4, ![8, 1, 512, 4096]⟩
abbrev S1x8x512x4096 : Shape := ⟨4, ![1, 8, 512, 4096]⟩
abbrev S8x1x512x1024 : Shape := ⟨4, ![8, 1, 512, 1024]⟩

abbrev nBuf : Space → Nat
  | .hbm => 385
  | .vmem => 0
  | .smem => 0
  | _ => 0

abbrev hbmTy0_0 (i : Nat) : BufTy := match i % 128 with
  | 0 => ⟨S1x2048x1024, .f32⟩
  | 1 => ⟨S3072x1024, .f32⟩
  | 2 => ⟨S3072, .f32⟩
  | 3 => ⟨S1024x1024, .f32⟩
  | 4 => ⟨S1024, .f32⟩
  | 5 => ⟨S4096x1024, .f32⟩
  | 6 => ⟨S4096, .f32⟩
  | 7 => ⟨S1024x4096, .f32⟩
  | 8 => ⟨S1024, .f32⟩
  | 9 => ⟨S1024, .f32⟩
  | 10 => ⟨S1024, .f32⟩
  | 11 => ⟨S1024, .f32⟩
  | 12 => ⟨S1024, .f32⟩
  | 13 => ⟨S3072x1024, .f32⟩
  | 14 => ⟨S3072, .f32⟩
  | 15 => ⟨S1024x1024, .f32⟩
  | 16 => ⟨S1024, .f32⟩
  | 17 => ⟨S1024x8, .f32⟩
  | 18 => ⟨S8x1024x4096, .f32⟩
  | 19 => ⟨S8x4096x1024, .f32⟩
  | 20 => ⟨S1024, .f32⟩
  | 21 => ⟨S1024, .f32⟩
  | 22 => ⟨S1024, .f32⟩
  | 23 => ⟨S1024, .f32⟩
  | 24 => ⟨S1024x3072, .f32⟩
  | 25 => ⟨S1x2048x3072, .f32⟩
  | 26 => ⟨S1x1x3072, .f32⟩
  | 27 => ⟨S1x2048x3072, .f32⟩
  | 28 => ⟨S1x2048x3072, .f32⟩
  | 29 => ⟨S1x2048x1024, .f32⟩
  | 30 => ⟨S1x2048x1024, .f32⟩
  | 31 => ⟨S1x2048x1024, .f32⟩
  | 32 => ⟨S1x2048x16x64, .f32⟩
  | 33 => ⟨S1x16x2048x64, .f32⟩
  | 34 => ⟨S1x2048x16x64, .f32⟩
  | 35 => ⟨S1x16x2048x64, .f32⟩
  | 36 => ⟨S1x2048x16x64, .f32⟩
  | 37 => ⟨S1x16x2048x64, .f32⟩
  | 38 => ⟨S1x16x2048x2048, .f32⟩
  | 39 => ⟨S_, .f32⟩
  | 40 => ⟨S1x16x2048x2048, .f32⟩
  | 41 => ⟨S1x16x2048x2048, .f32⟩
  | 42 => ⟨S_, .f32⟩
  | 43 => ⟨S1x16x2048, .f32⟩
  | 44 => ⟨S_, .f32⟩
  | 45 => ⟨S1x16x2048, .f32⟩
  | 46 => ⟨S1x16x2048, .f32⟩
  | 47 => ⟨S1x16x2048x1, .f32⟩
  | 48 => ⟨S1x16x2048x2048, .f32⟩
  | 49 => ⟨S1x16x2048x2048, .f32⟩
  | 50 => ⟨S1x16x2048x2048, .f32⟩
  | 51 => ⟨S_, .f32⟩
  | 52 => ⟨S1x16x2048, .f32⟩
  | 53 => ⟨S1x16x2048x1, .f32⟩
  | 54 => ⟨S1x16x2048x2048, .f32⟩
  | 55 => ⟨S1x16x2048x2048, .f32⟩
  | 56 => ⟨S16x2048x2048, .f32⟩
  | 57 => ⟨S16x2048x64, .f32⟩
  | 58 => ⟨S16x2048x64, .f32⟩
  | 59 => ⟨S1x16x2048x64, .f32⟩
  | 60 => ⟨S1x2048x16x64, .f32⟩
  | 61 => ⟨S1x2048x1024, .f32⟩
  | 62 => ⟨S1024x1024, .f32⟩
  | 63 => ⟨S1x2048x1024, .f32⟩
  | 64 => ⟨S1x1x1024, .f32⟩
  | 65 => ⟨S1x2048x1024, .f32⟩
  | 66 => ⟨S1x2048x1024, .f32⟩
  | 67 => ⟨S1x2048x1024, .f32⟩
  | 68 => ⟨S_, .f32⟩
  | 69 => ⟨S1x2048, .f32⟩
  | 70 => ⟨S1x2048x1, .f32⟩
  | 71 => ⟨S_, .f32⟩
  | 72 => ⟨S1x2048x1, .f32⟩
  | 73 => ⟨S1x2048x1, .f32⟩
  | 74 => ⟨S_, .i32⟩
  | 75 => ⟨S_, .f32⟩
  | 76 => ⟨S1x2048, .f32⟩
  | 77 => ⟨S1x2048x1, .f32⟩
  | 78 => ⟨S_, .f32⟩
  | 79 => ⟨S1x2048x1, .f32⟩
  | 80 => ⟨S1x2048x1, .f32⟩
  | 81 => ⟨S1x2048x1024, .f32⟩
  | 82 => ⟨S1x2048x1024, .f32⟩
  | 83 => ⟨S1x2048x1024, .f32⟩
  | 84 => ⟨S_, .f32⟩
  | 85 => ⟨S_, .f32⟩
  | 86 => ⟨S_, .f32⟩
  | 87 => ⟨S_, .f32⟩
  | 88 => ⟨S1x2048, .f32⟩
  | 89 => ⟨S1x2048x1, .f32⟩
  | 90 => ⟨S1x2048x1, .f32⟩
  | 91 => ⟨S1x2048x1, .f32⟩
  | 92 => ⟨S_, .f32⟩
  | 93 => ⟨S_, .i1⟩
  | 94 => ⟨S_, .f32⟩
  | 95 => ⟨S_, .f32⟩
  | 96 => ⟨S1x2048x1, .f32⟩
  | 97 => ⟨S1x2048x1, .f32⟩
  | 98 => ⟨S1x2048x1024, .f32⟩
  | 99 => ⟨S1x2048x1024, .f32⟩
  | 100 => ⟨S_, .f32⟩
  | 101 => ⟨S1x2048x1, .f32⟩
  | 102 => ⟨S1x2048x1, .f32⟩
  | 103 => ⟨S1x2048x1, .f32⟩
  | 104 => ⟨S1x2048x1024, .f32⟩
  | 105 => ⟨S1x2048x1024, .f32⟩
  | 106 => ⟨S1x1x1024, .f32⟩
  | 107 => ⟨S1x2048x1024, .f32⟩
  | 108 => ⟨S1x2048x1024, .f32⟩
  | 109 => ⟨S1x1x1024, .f32⟩
  | 110 => ⟨S1x2048x1024, .f32⟩
  | 111 => ⟨S1x2048x1024, .f32⟩
  | 112 => ⟨S1024x4096, .f32⟩
  | 113 => ⟨S1x2048x4096, .f32⟩
  | 114 => ⟨S1x1x4096, .f32⟩
  | 115 => ⟨S1x2048x4096, .f32⟩
  | 116 => ⟨S1x2048x4096, .f32⟩
  | 117 => ⟨S_, .f32⟩
  | 118 => ⟨S1x2048x4096, .f32⟩
  | 119 => ⟨S1x2048x4096, .f32⟩
  | 120 => ⟨S4096x1024, .f32⟩
  | 121 => ⟨S1x2048x1024, .f32⟩
  | 122 => ⟨S1x1x1024, .f32⟩
  | 123 => ⟨S1x2048x1024, .f32⟩
  | 124 => ⟨S1x2048x1024, .f32⟩
  | 125 => ⟨S1x2048x1024, .f32⟩
  | 126 => ⟨S_, .f32⟩
  | 127 => ⟨S1x2048, .f32⟩
  | _ => ⟨S1x2048x1024, .f32⟩

abbrev hbmTy0_1 (i : Nat) : BufTy := match i % 128 with
  | 0 => ⟨S1x2048x1, .f32⟩
  | 1 => ⟨S_, .f32⟩
  | 2 => ⟨S1x2048x1, .f32⟩
  | 3 => ⟨S1x2048x1, .f32⟩
  | 4 => ⟨S_, .i32⟩
  | 5 => ⟨S_, .f32⟩
  | 6 => ⟨S1x2048, .f32⟩
  | 7 => ⟨S1x2048x1, .f32⟩
  | 8 => ⟨S_, .f32⟩
  | 9 => ⟨S1x2048x1, .f32⟩
  | 10 => ⟨S1x2048x1, .f32⟩
  | 11 => ⟨S1x2048x1024, .f32⟩
  | 12 => ⟨S1x2048x1024, .f32⟩
  | 13 => ⟨S1x2048x1024, .f32⟩
  | 14 => ⟨S_, .f32⟩
  | 15 => ⟨S_, .f32⟩
  | 16 => ⟨S_, .f32⟩
  | 17 => ⟨S_, .f32⟩
  | 18 => ⟨S1x2048, .f32⟩
  | 19 => ⟨S1x2048x1, .f32⟩
  | 20 => ⟨S1x2048x1, .f32⟩
  | 21 => ⟨S1x2048x1, .f32⟩
  | 22 => ⟨S_, .f32⟩
  | 23 => ⟨S_, .i1⟩
  | 24 => ⟨S_, .f32⟩
  | 25 => ⟨S_, .f32⟩
  | 26 => ⟨S1x2048x1, .f32⟩
  | 27 => ⟨S1x2048x1, .f32⟩
  | 28 => ⟨S1x2048x1024, .f32⟩
  | 29 => ⟨S1x2048x1024, .f32⟩
  | 30 => ⟨S_, .f32⟩
  | 31 => ⟨S1x2048x1, .f32⟩
  | 32 => ⟨S1x2048x1, .f32⟩
  | 33 => ⟨S1x2048x1, .f32⟩
  | 34 => ⟨S1x2048x1024, .f32⟩
  | 35 => ⟨S1x2048x1024, .f32⟩
  | 36 => ⟨S1x1x1024, .f32⟩
  | 37 => ⟨S1x2048x1024, .f32⟩
  | 38 => ⟨S1x2048x1024, .f32⟩
  | 39 => ⟨S1x1x1024, .f32⟩
  | 40 => ⟨S1x2048x1024, .f32⟩
  | 41 => ⟨S1x2048x1024, .f32⟩
  | 42 => ⟨S1024x3072, .f32⟩
  | 43 => ⟨S1x2048x3072, .f32⟩
  | 44 => ⟨S1x1x3072, .f32⟩
  | 45 => ⟨S1x2048x3072, .f32⟩
  | 46 => ⟨S1x2048x3072, .f32⟩
  | 47 => ⟨S1x2048x1024, .f32⟩
  | 48 => ⟨S1x2048x1024, .f32⟩
  | 49 => ⟨S1x2048x1024, .f32⟩
  | 50 => ⟨S1x2048x16x64, .f32⟩
  | 51 => ⟨S1x16x2048x64, .f32⟩
  | 52 => ⟨S1x2048x16x64, .f32⟩
  | 53 => ⟨S1x16x2048x64, .f32⟩
  | 54 => ⟨S1x2048x16x64, .f32⟩
  | 55 => ⟨S1x16x2048x64, .f32⟩
  | 56 => ⟨S1x16x2048x2048, .f32⟩
  | 57 => ⟨S_, .f32⟩
  | 58 => ⟨S1x16x2048x2048, .f32⟩
  | 59 => ⟨S1x16x2048x2048, .f32⟩
  | 60 => ⟨S_, .f32⟩
  | 61 => ⟨S1x16x2048, .f32⟩
  | 62 => ⟨S_, .f32⟩
  | 63 => ⟨S1x16x2048, .f32⟩
  | 64 => ⟨S1x16x2048, .f32⟩
  | 65 => ⟨S1x16x2048x1, .f32⟩
  | 66 => ⟨S1x16x2048x2048, .f32⟩
  | 67 => ⟨S1x16x2048x2048, .f32⟩
  | 68 => ⟨S1x16x2048x2048, .f32⟩
  | 69 => ⟨S_, .f32⟩
  | 70 => ⟨S1x16x2048, .f32⟩
  | 71 => ⟨S1x16x2048x1, .f32⟩
  | 72 => ⟨S1x16x2048x2048, .f32⟩
  | 73 => ⟨S1x16x2048x2048, .f32⟩
  | 74 => ⟨S16x2048x2048, .f32⟩
  | 75 => ⟨S16x2048x64, .f32⟩
  | 76 => ⟨S16x2048x64, .f32⟩
  | 77 => ⟨S1x16x2048x64, .f32⟩
  | 78 => ⟨S1x2048x16x64, .f32⟩
  | 79 => ⟨S1x2048x1024, .f32⟩
  | 80 => ⟨S1024x1024, .f32⟩
  | 81 => ⟨S1x2048x1024, .f32⟩
  | 82 => ⟨S1x1x1024, .f32⟩
  | 83 => ⟨S1x2048x1024, .f32⟩
  | 84 => ⟨S1x2048x1024, .f32⟩
  | 85 => ⟨S1x2048x1024, .f32⟩
  | 86 => ⟨S_, .f32⟩
  | 87 => ⟨S1x2048, .f32⟩
  | 88 => ⟨S1x2048x1, .f32⟩
  | 89 => ⟨S_, .f32⟩
  | 90 => ⟨S1x2048x1, .f32⟩
  | 91 => ⟨S1x2048x1, .f32⟩
  | 92 => ⟨S_, .i32⟩
  | 93 => ⟨S_, .f32⟩
  | 94 => ⟨S1x2048, .f32⟩
  | 95 => ⟨S1x2048x1, .f32⟩
  | 96 => ⟨S_, .f32⟩
  | 97 => ⟨S1x2048x1, .f32⟩
  | 98 => ⟨S1x2048x1, .f32⟩
  | 99 => ⟨S1x2048x1024, .f32⟩
  | 100 => ⟨S1x2048x1024, .f32⟩
  | 101 => ⟨S1x2048x1024, .f32⟩
  | 102 => ⟨S_, .f32⟩
  | 103 => ⟨S_, .f32⟩
  | 104 => ⟨S_, .f32⟩
  | 105 => ⟨S_, .f32⟩
  | 106 => ⟨S1x2048, .f32⟩
  | 107 => ⟨S1x2048x1, .f32⟩
  | 108 => ⟨S1x2048x1, .f32⟩
  | 109 => ⟨S1x2048x1, .f32⟩
  | 110 => ⟨S_, .f32⟩
  | 111 => ⟨S_, .i1⟩
  | 112 => ⟨S_, .f32⟩
  | 113 => ⟨S_, .f32⟩
  | 114 => ⟨S1x2048x1, .f32⟩
  | 115 => ⟨S1x2048x1, .f32⟩
  | 116 => ⟨S1x2048x1024, .f32⟩
  | 117 => ⟨S1x2048x1024, .f32⟩
  | 118 => ⟨S_, .f32⟩
  | 119 => ⟨S1x2048x1, .f32⟩
  | 120 => ⟨S1x2048x1, .f32⟩
  | 121 => ⟨S1x2048x1, .f32⟩
  | 122 => ⟨S1x2048x1024, .f32⟩
  | 123 => ⟨S1x2048x1024, .f32⟩
  | 124 => ⟨S1x1x1024, .f32⟩
  | 125 => ⟨S1x2048x1024, .f32⟩
  | 126 => ⟨S1x2048x1024, .f32⟩
  | 127 => ⟨S1x1x1024, .f32⟩
  | _ => ⟨S1x2048x1024, .f32⟩

abbrev hbmTy0_2 (i : Nat) : BufTy := match i % 128 with
  | 0 => ⟨S1x2048x1024, .f32⟩
  | 1 => ⟨S1x2048x1024, .f32⟩
  | 2 => ⟨S1x2048x8, .f32⟩
  | 3 => ⟨S_, .f32⟩
  | 4 => ⟨S1x2048, .f32⟩
  | 5 => ⟨S_, .f32⟩
  | 6 => ⟨S1x2048, .f32⟩
  | 7 => ⟨S1x2048, .f32⟩
  | 8 => ⟨S1x2048x1, .f32⟩
  | 9 => ⟨S1x2048x8, .f32⟩
  | 10 => ⟨S1x2048x8, .f32⟩
  | 11 => ⟨S1x2048x8, .f32⟩
  | 12 => ⟨S_, .f32⟩
  | 13 => ⟨S1x2048, .f32⟩
  | 14 => ⟨S1x2048x1, .f32⟩
  | 15 => ⟨S1x2048x8, .f32⟩
  | 16 => ⟨S1x2048x8, .f32⟩
  | 17 => ⟨S_, .f32⟩
  | 18 => ⟨S1x2048, .f32⟩
  | 19 => ⟨S1x2048x8, .i32⟩
  | 20 => ⟨S_, .f32⟩
  | 21 => ⟨S_, .i32⟩
  | 22 => ⟨S1x2048, .f32⟩
  | 23 => ⟨S1x2048, .i32⟩
  | 24 => ⟨S1x2048x1, .i32⟩
  | 25 => ⟨S1x1x8, .i32⟩
  | 26 => ⟨S1x2048x8, .i32⟩
  | 27 => ⟨S1x2048x8, .i32⟩
  | 28 => ⟨S1x2048x8, .i1⟩
  | 29 => ⟨S1x2048x8, .i32⟩
  | 30 => ⟨S_, .i32⟩
  | 31 => ⟨S_, .i32⟩
  | 32 => ⟨S1x2048x8, .i32⟩
  | 33 => ⟨S1x2048x8, .i32⟩
  | 34 => ⟨S_, .i32⟩
  | 35 => ⟨S1x2048x8, .i32⟩
  | 36 => ⟨S1x2048x8, .i1⟩
  | 37 => ⟨S1x2048x8, .i32⟩
  | 38 => ⟨S1x2048x8, .i32⟩
  | 39 => ⟨S1x2048x8, .i32⟩
  | 40 => ⟨S_, .i32⟩
  | 41 => ⟨S1x2048, .i32⟩
  | 42 => ⟨S1x2048, .f32⟩
  | 43 => ⟨S_, .i32⟩
  | 44 => ⟨S1x2048, .i32⟩
  | 45 => ⟨S_, .i32⟩
  | 46 => ⟨S1x2048, .i32⟩
  | 47 => ⟨S1x2048, .i32⟩
  | 48 => ⟨S1x2048, .i32⟩
  | 49 => ⟨S2048x1, .i32⟩
  | 50 => ⟨S1x2048x1, .i32⟩
  | 51 => ⟨S1x1x8, .i32⟩
  | 52 => ⟨S1x2048x8, .i32⟩
  | 53 => ⟨S1x2048x8, .i32⟩
  | 54 => ⟨S1x2048x8, .i1⟩
  | 55 => ⟨S1x2048x8, .f32⟩
  | 56 => ⟨S1x2048x8x1, .i32⟩
  | 57 => ⟨S1x1x1x512, .i32⟩
  | 58 => ⟨S1x2048x8x512, .i32⟩
  | 59 => ⟨S1x2048x8x512, .i32⟩
  | 60 => ⟨S1x2048x8x512, .i1⟩
  | 61 => ⟨S1x2048x8x512, .f32⟩
  | 62 => ⟨S1x2048, .f32⟩
  | 63 => ⟨S1x2048x1x1, .f32⟩
  | 64 => ⟨S1x2048x8x1, .f32⟩
  | 65 => ⟨S1x2048x8x1, .f32⟩
  | 66 => ⟨S1x2048x8x1, .f32⟩
  | 67 => ⟨S1x2048x8x512, .f32⟩
  | 68 => ⟨S1x2048x8x512, .f32⟩
  | 69 => ⟨S_, .f32⟩
  | 70 => ⟨S1x2048x8x512, .f32⟩
  | 71 => ⟨S1x2048x8x512, .i1⟩
  | 72 => ⟨S1x2048x8x512, .f32⟩
  | 73 => ⟨S1x8x512x1024, .f32⟩
  | 74 => ⟨S8x1x512x4096, .f32⟩
  | 75 => ⟨S1x8x512x4096, .f32⟩
  | 76 => ⟨S_, .f32⟩
  | 77 => ⟨S1x8x512x4096, .f32⟩
  | 78 => ⟨S1x8x512x4096, .f32⟩
  | 79 => ⟨S8x1x512x1024, .f32⟩
  | 80 => ⟨S1x8x512x1024, .f32⟩
  | 81 => ⟨S1x2048x1024, .f32⟩
  | 82 => ⟨S1x2048x1024, .f32⟩
  | 83 => ⟨S_, .f32⟩
  | 84 => ⟨S1x2048, .f32⟩
  | 85 => ⟨S1x2048x1, .f32⟩
  | 86 => ⟨S_, .f32⟩
  | 87 => ⟨S1x2048x1, .f32⟩
  | 88 => ⟨S1x2048x1, .f32⟩
  | 89 => ⟨S_, .i32⟩
  | 90 => ⟨S_, .f32⟩
  | 91 => ⟨S1x2048, .f32⟩
  | 92 => ⟨S1x2048x1, .f32⟩
  | 93 => ⟨S_, .f32⟩
  | 94 => ⟨S1x2048x1, .f32⟩
  | 95 => ⟨S1x2048x1, .f32⟩
  | 96 => ⟨S1x2048x1024, .f32⟩
  | 97 => ⟨S1x2048x1024, .f32⟩
  | 98 => ⟨S1x2048x1024, .f32⟩
  | 99 => ⟨S_, .f32⟩
  | 100 => ⟨S_, .f32⟩
  | 101 => ⟨S_, .f32⟩
  | 102 => ⟨S_, .f32⟩
  | 103 => ⟨S1x2048, .f32⟩
  | 104 => ⟨S1x2048x1, .f32⟩
  | 105 => ⟨S1x2048x1, .f32⟩
  | 106 => ⟨S1x2048x1, .f32⟩
  | 107 => ⟨S_, .f32⟩
  | 108 => ⟨S_, .i1⟩
  | 109 => ⟨S_, .f32⟩
  | 110 => ⟨S_, .f32⟩
  | 111 => ⟨S1x2048x1, .f32⟩
  | 112 => ⟨S1x2048x1, .f32⟩
  | 113 => ⟨S1x2048x1024, .f32⟩
  | 114 => ⟨S1x2048x1024, .f32⟩
  | 115 => ⟨S_, .f32⟩
  | 116 => ⟨S1x2048x1, .f32⟩
  | 117 => ⟨S1x2048x1, .f32⟩
  | 118 => ⟨S1x2048x1, .f32⟩
  | 119 => ⟨S1x2048x1024, .f32⟩
  | 120 => ⟨S1x2048x1024, .f32⟩
  | 121 => ⟨S1x1x1024, .f32⟩
  | 122 => ⟨S1x2048x1024, .f32⟩
  | 123 => ⟨S1x2048x1024, .f32⟩
  | 124 => ⟨S1x1x1024, .f32⟩
  | 125 => ⟨S1x2048x1024, .f32⟩
  | 126 => ⟨S1x2048x1024, .f32⟩
  | 127 => ⟨S_, .f32⟩
  | _ => ⟨S1x2048x1024, .f32⟩

abbrev hbmTy0_3 (i : Nat) : BufTy := match i % 128 with
  | 0 => ⟨S_, .f32⟩
  | _ => ⟨S1x2048x1024, .f32⟩

abbrev hbmTy (i : Nat) : BufTy := match i / 128 with
  | 0 => hbmTy0_0 i
  | 1 => hbmTy0_1 i
  | 2 => hbmTy0_2 i
  | 3 => hbmTy0_3 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_v43 : Ref sig .tc := ⟨.hbm, 73, rfl⟩
abbrev main_c : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_cst_1 : Ref sig .tc := ⟨.hbm, 85, rfl⟩
abbrev main_call0_v8 : Ref sig .tc := ⟨.hbm, 86, rfl⟩
abbrev main_call0_cst_2 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_call0_v12 : Ref sig .tc := ⟨.hbm, 91, rfl⟩
abbrev main_call0_cst_3 : Ref sig .tc := ⟨.hbm, 92, rfl⟩
abbrev main_call0_v13 : Ref sig .tc := ⟨.hbm, 93, rfl⟩
abbrev main_call0_cst_4 : Ref sig .tc := ⟨.hbm, 94, rfl⟩
abbrev main_call0_call0_v0 : Ref sig .tc := ⟨.hbm, 95, rfl⟩
abbrev main_call0_call0_v1 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_5 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_cst_6 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_7 : Ref sig .tc := ⟨.hbm, 126, rfl⟩
abbrev main_v71 : Ref sig .tc := ⟨.hbm, 127, rfl⟩
abbrev main_v72 : Ref sig .tc := ⟨.hbm, 128, rfl⟩
abbrev main_cst_8 : Ref sig .tc := ⟨.hbm, 129, rfl⟩
abbrev main_v73 : Ref sig .tc := ⟨.hbm, 130, rfl⟩
abbrev main_v74 : Ref sig .tc := ⟨.hbm, 131, rfl⟩
abbrev main_c_9 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_cst_0 : Ref sig .tc := ⟨.hbm, 136, rfl⟩
abbrev main_call1_v2 : Ref sig .tc := ⟨.hbm, 137, rfl⟩
abbrev main_call1_v3 : Ref sig .tc := ⟨.hbm, 138, rfl⟩
abbrev main_call1_v4 : Ref sig .tc := ⟨.hbm, 139, rfl⟩
abbrev main_call1_v5 : Ref sig .tc := ⟨.hbm, 140, rfl⟩
abbrev main_call1_v6 : Ref sig .tc := ⟨.hbm, 141, rfl⟩
abbrev main_call1_v7 : Ref sig .tc := ⟨.hbm, 142, rfl⟩
abbrev main_call1_cst_1 : Ref sig .tc := ⟨.hbm, 143, rfl⟩
abbrev main_call1_v8 : Ref sig .tc := ⟨.hbm, 144, rfl⟩
abbrev main_call1_cst_2 : Ref sig .tc := ⟨.hbm, 145, rfl⟩
abbrev main_call1_v9 : Ref sig .tc := ⟨.hbm, 146, rfl⟩
abbrev main_call1_v10 : Ref sig .tc := ⟨.hbm, 147, rfl⟩
abbrev main_call1_v11 : Ref sig .tc := ⟨.hbm, 148, rfl⟩
abbrev main_call1_v12 : Ref sig .tc := ⟨.hbm, 149, rfl⟩
abbrev main_call1_cst_3 : Ref sig .tc := ⟨.hbm, 150, rfl⟩
abbrev main_call1_v13 : Ref sig .tc := ⟨.hbm, 151, rfl⟩
abbrev main_call1_cst_4 : Ref sig .tc := ⟨.hbm, 152, rfl⟩
abbrev main_call1_call0_v0 : Ref sig .tc := ⟨.hbm, 153, rfl⟩
abbrev main_call1_call0_v1 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_cst_10 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_cst_11 : Ref sig .tc := ⟨.hbm, 185, rfl⟩
abbrev main_v104 : Ref sig .tc := ⟨.hbm, 186, rfl⟩
abbrev main_v105 : Ref sig .tc := ⟨.hbm, 187, rfl⟩
abbrev main_cst_12 : Ref sig .tc := ⟨.hbm, 188, rfl⟩
abbrev main_v106 : Ref sig .tc := ⟨.hbm, 189, rfl⟩
abbrev main_cst_13 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_cst_14 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_cst_15 : Ref sig .tc := ⟨.hbm, 214, rfl⟩
abbrev main_v129 : Ref sig .tc := ⟨.hbm, 215, rfl⟩
abbrev main_v130 : Ref sig .tc := ⟨.hbm, 216, rfl⟩
abbrev main_cst_16 : Ref sig .tc := ⟨.hbm, 217, rfl⟩
abbrev main_v131 : Ref sig .tc := ⟨.hbm, 218, rfl⟩
abbrev main_v132 : Ref sig .tc := ⟨.hbm, 219, rfl⟩
abbrev main_c_17 : Ref sig .tc := ⟨.hbm, 220, rfl⟩
abbrev main_call2_cst : Ref sig .tc := ⟨.hbm, 221, rfl⟩
abbrev main_call2_v0 : Ref sig .tc := ⟨.hbm, 222, rfl⟩
abbrev main_call2_v1 : Ref sig .tc := ⟨.hbm, 223, rfl⟩
abbrev main_call2_cst_0 : Ref sig .tc := ⟨.hbm, 224, rfl⟩
abbrev main_call2_v2 : Ref sig .tc := ⟨.hbm, 225, rfl⟩
abbrev main_call2_v3 : Ref sig .tc := ⟨.hbm, 226, rfl⟩
abbrev main_call2_v4 : Ref sig .tc := ⟨.hbm, 227, rfl⟩
abbrev main_call2_v5 : Ref sig .tc := ⟨.hbm, 228, rfl⟩
abbrev main_call2_v6 : Ref sig .tc := ⟨.hbm, 229, rfl⟩
abbrev main_call2_v7 : Ref sig .tc := ⟨.hbm, 230, rfl⟩
abbrev main_call2_cst_1 : Ref sig .tc := ⟨.hbm, 231, rfl⟩
abbrev main_call2_v8 : Ref sig .tc := ⟨.hbm, 232, rfl⟩
abbrev main_call2_cst_2 : Ref sig .tc := ⟨.hbm, 233, rfl⟩
abbrev main_call2_v9 : Ref sig .tc := ⟨.hbm, 234, rfl⟩
abbrev main_call2_v10 : Ref sig .tc := ⟨.hbm, 235, rfl⟩
abbrev main_call2_v11 : Ref sig .tc := ⟨.hbm, 236, rfl⟩
abbrev main_call2_v12 : Ref sig .tc := ⟨.hbm, 237, rfl⟩
abbrev main_call2_cst_3 : Ref sig .tc := ⟨.hbm, 238, rfl⟩
abbrev main_call2_v13 : Ref sig .tc := ⟨.hbm, 239, rfl⟩
abbrev main_call2_cst_4 : Ref sig .tc := ⟨.hbm, 240, rfl⟩
abbrev main_call2_call0_v0 : Ref sig .tc := ⟨.hbm, 241, rfl⟩
abbrev main_call2_call0_v1 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_cst_18 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_cst_19 : Ref sig .tc := ⟨.hbm, 259, rfl⟩
abbrev main_v148 : Ref sig .tc := ⟨.hbm, 260, rfl⟩
abbrev main_cst_20 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev main_cst_21 : Ref sig .tc := ⟨.hbm, 268, rfl⟩
abbrev main_v155 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_cst_22 : Ref sig .tc := ⟨.hbm, 273, rfl⟩
abbrev main_v159 : Ref sig .tc := ⟨.hbm, 274, rfl⟩
abbrev main_call3_v0 : Ref sig .tc := ⟨.hbm, 275, rfl⟩
abbrev main_call3_cst : Ref sig .tc := ⟨.hbm, 276, rfl⟩
abbrev main_call3_c : Ref sig .tc := ⟨.hbm, 277, rfl⟩
abbrev main_call3_v1_0 : Ref sig .tc := ⟨.hbm, 278, rfl⟩
abbrev main_v160 : Ref sig .tc := ⟨.hbm, 279, rfl⟩
abbrev main_call4_v0 : Ref sig .tc := ⟨.hbm, 280, rfl⟩
abbrev main_call4_v1 : Ref sig .tc := ⟨.hbm, 281, rfl⟩
abbrev main_call4_v2 : Ref sig .tc := ⟨.hbm, 282, rfl⟩
abbrev main_call4_v3 : Ref sig .tc := ⟨.hbm, 283, rfl⟩
abbrev main_call4_v4 : Ref sig .tc := ⟨.hbm, 284, rfl⟩
abbrev main_v161 : Ref sig .tc := ⟨.hbm, 285, rfl⟩
abbrev main_call5_call0_c : Ref sig .tc := ⟨.hbm, 286, rfl⟩
abbrev main_call5_call0_v0 : Ref sig .tc := ⟨.hbm, 287, rfl⟩
abbrev main_v162 : Ref sig .tc := ⟨.hbm, 288, rfl⟩
abbrev main_v163 : Ref sig .tc := ⟨.hbm, 289, rfl⟩
abbrev main_c_23 : Ref sig .tc := ⟨.hbm, 290, rfl⟩
abbrev main_v164 : Ref sig .tc := ⟨.hbm, 291, rfl⟩
abbrev main_v165 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_c_24 : Ref sig .tc := ⟨.hbm, 296, rfl⟩
abbrev main_v169 : Ref sig .tc := ⟨.hbm, 297, rfl⟩
abbrev main_v170 : Ref sig .tc := ⟨.hbm, 298, rfl⟩
abbrev main_c_25 : Ref sig .tc := ⟨.hbm, 299, rfl⟩
abbrev main_v171 : Ref sig .tc := ⟨.hbm, 300, rfl⟩
abbrev main_c_26 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_call6_v0 : Ref sig .tc := ⟨.hbm, 306, rfl⟩
abbrev main_call6_v1 : Ref sig .tc := ⟨.hbm, 307, rfl⟩
abbrev main_call6_v2 : Ref sig .tc := ⟨.hbm, 308, rfl⟩
abbrev main_call6_v3 : Ref sig .tc := ⟨.hbm, 309, rfl⟩
abbrev main_call6_v4 : Ref sig .tc := ⟨.hbm, 310, rfl⟩
abbrev main_v176 : Ref sig .tc := ⟨.hbm, 311, rfl⟩
abbrev main_call7_v0 : Ref sig .tc := ⟨.hbm, 312, rfl⟩
abbrev main_call7_v1 : Ref sig .tc := ⟨.hbm, 313, rfl⟩
abbrev main_call7_v2 : Ref sig .tc := ⟨.hbm, 314, rfl⟩
abbrev main_call7_v3 : Ref sig .tc := ⟨.hbm, 315, rfl⟩
abbrev main_call7_v4 : Ref sig .tc := ⟨.hbm, 316, rfl⟩
abbrev main_v177 : Ref sig .tc := ⟨.hbm, 317, rfl⟩
abbrev main_v178 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_v183 : Ref sig .tc := ⟨.hbm, 323, rfl⟩
abbrev main_v184 : Ref sig .tc := ⟨.hbm, 324, rfl⟩
abbrev main_cst_27 : Ref sig .tc := ⟨.hbm, 325, rfl⟩
abbrev main_v185 : Ref sig .tc := ⟨.hbm, 326, rfl⟩
abbrev main_v186 : Ref sig .tc := ⟨.hbm, 327, rfl⟩
abbrev main_v187 : Ref sig .tc := ⟨.hbm, 328, rfl⟩
abbrev main_v188 : Ref sig .tc := ⟨.hbm, 329, rfl⟩
abbrev main_v189 : Ref sig .tc := ⟨.hbm, 330, rfl⟩
abbrev main_v190 : Ref sig .tc := ⟨.hbm, 331, rfl⟩
abbrev main_cst_28 : Ref sig .tc := ⟨.hbm, 332, rfl⟩
abbrev main_v191 : Ref sig .tc := ⟨.hbm, 333, rfl⟩
abbrev main_v192 : Ref sig .tc := ⟨.hbm, 334, rfl⟩
abbrev main_v193 : Ref sig .tc := ⟨.hbm, 335, rfl⟩
abbrev main_v194 : Ref sig .tc := ⟨.hbm, 336, rfl⟩
abbrev main_v195 : Ref sig .tc := ⟨.hbm, 337, rfl⟩
abbrev main_v196 : Ref sig .tc := ⟨.hbm, 338, rfl⟩
abbrev main_cst_29 : Ref sig .tc := ⟨.hbm, 339, rfl⟩
abbrev main_v197 : Ref sig .tc := ⟨.hbm, 340, rfl⟩
abbrev main_v198 : Ref sig .tc := ⟨.hbm, 341, rfl⟩
abbrev main_cst_30 : Ref sig .tc := ⟨.hbm, 342, rfl⟩
abbrev main_v199 : Ref sig .tc := ⟨.hbm, 343, rfl⟩
abbrev main_v200 : Ref sig .tc := ⟨.hbm, 344, rfl⟩
abbrev main_c_31 : Ref sig .tc := ⟨.hbm, 345, rfl⟩
abbrev main_call8_cst : Ref sig .tc := ⟨.hbm, 346, rfl⟩
abbrev main_call8_v0 : Ref sig .tc := ⟨.hbm, 347, rfl⟩
abbrev main_call8_v1 : Ref sig .tc := ⟨.hbm, 348, rfl⟩
abbrev main_call8_cst_0 : Ref sig .tc := ⟨.hbm, 349, rfl⟩
abbrev main_call8_v2 : Ref sig .tc := ⟨.hbm, 350, rfl⟩
abbrev main_call8_v3 : Ref sig .tc := ⟨.hbm, 351, rfl⟩
abbrev main_call8_v4 : Ref sig .tc := ⟨.hbm, 352, rfl⟩
abbrev main_call8_v5 : Ref sig .tc := ⟨.hbm, 353, rfl⟩
abbrev main_call8_v6 : Ref sig .tc := ⟨.hbm, 354, rfl⟩
abbrev main_call8_v7 : Ref sig .tc := ⟨.hbm, 355, rfl⟩
abbrev main_call8_cst_1 : Ref sig .tc := ⟨.hbm, 356, rfl⟩
abbrev main_call8_v8 : Ref sig .tc := ⟨.hbm, 357, rfl⟩
abbrev main_call8_cst_2 : Ref sig .tc := ⟨.hbm, 358, rfl⟩
abbrev main_call8_v9 : Ref sig .tc := ⟨.hbm, 359, rfl⟩
abbrev main_call8_v10 : Ref sig .tc := ⟨.hbm, 360, rfl⟩
abbrev main_call8_v11 : Ref sig .tc := ⟨.hbm, 361, rfl⟩
abbrev main_call8_v12 : Ref sig .tc := ⟨.hbm, 362, rfl⟩
abbrev main_call8_cst_3 : Ref sig .tc := ⟨.hbm, 363, rfl⟩
abbrev main_call8_v13 : Ref sig .tc := ⟨.hbm, 364, rfl⟩
abbrev main_call8_cst_4 : Ref sig .tc := ⟨.hbm, 365, rfl⟩
abbrev main_call8_call0_v0 : Ref sig .tc := ⟨.hbm, 366, rfl⟩
abbrev main_call8_call0_v1 : Ref sig .tc := ⟨.hbm, 367, rfl⟩
abbrev main_v201 : Ref sig .tc := ⟨.hbm, 368, rfl⟩
abbrev main_v202 : Ref sig .tc := ⟨.hbm, 369, rfl⟩
abbrev main_v203 : Ref sig .tc := ⟨.hbm, 370, rfl⟩
abbrev main_cst_32 : Ref sig .tc := ⟨.hbm, 371, rfl⟩
abbrev main_v204 : Ref sig .tc := ⟨.hbm, 372, rfl⟩
abbrev main_v205 : Ref sig .tc := ⟨.hbm, 373, rfl⟩
abbrev main_v206 : Ref sig .tc := ⟨.hbm, 374, rfl⟩
abbrev main_v207 : Ref sig .tc := ⟨.hbm, 375, rfl⟩
abbrev main_v208 : Ref sig .tc := ⟨.hbm, 376, rfl⟩
abbrev main_v209 : Ref sig .tc := ⟨.hbm, 377, rfl⟩
abbrev main_v210 : Ref sig .tc := ⟨.hbm, 378, rfl⟩
abbrev main_v211 : Ref sig .tc := ⟨.hbm, 379, rfl⟩
abbrev main_v212 : Ref sig .tc := ⟨.hbm, 380, rfl⟩
abbrev main_v213 : Ref sig .tc := ⟨.hbm, 381, rfl⟩
abbrev main_v214 : Ref sig .tc := ⟨.hbm, 382, rfl⟩
abbrev main_cst_33 : Ref sig .tc := ⟨.hbm, 383, rfl⟩
abbrev main_v215 : Ref sig .tc := ⟨.hbm, 384, rfl⟩

abbrev nD : Nat := 1
abbrev τ : Topo := Topo.v7x

variable {F : FTy → Type} [FloatOps F]
-- ==== Proof.KernelRun.lean ====
/- The kernel's run: every weakly fair execution ends with each unscoped buffer at the contents that the chain of host
   stretches and pipeline regions leaves, which is what a claim on the result reads. -/
module

public import proofs.«01_k».proof.Proof.Gen.KernelIdeal.Frame

@[expose] public section

set_option maxRecDepth 16384

noncomputable section

namespace Cert.Proof.Kernel

open Idealize.ShloMosaic Idealize.ShloMosaic.TcCoe Idealize.ShloMosaic.Tactic Idealize.ShloMosaic.Rounds
open Idealize.SL Idealize.SL.RA Idealize.SL.BI Idealize.SL.BI.BIBase Idealize.SL.BI.Laws Idealize.SL.ProofMode Idealize.SL.Sem
open scoped Idealize.SL.BI
open Idealize.ShloMosaic.Pipeline (Dat Cfg Window BodyObligation cellOf)
open Cert.KernelIdeal Cert.KernelIdeal.Gen Cert.KernelIdeal.Facts₀ Cert.KernelIdeal.Facts

variable {F : FTy → Type} [FloatOps F] (m : (ℓ : Loc nD τ sig) → Buf (Elt F) ℓ) (ρ : Dev nD → PrngReg)

set_option backward.isDefEq.respectTransparency.types false in
/-- From any memory with every counter at zero, the program ends with each unscoped buffer at the last boundary's
    contents: the launch over the segments, its last thread state read against the final memory. -/
theorem run : θ_run defs (onTc (τ := τ) (main (F := F))) ⟨m, fun _ => 0, ρ⟩
    (fun r => ∀ c : Dev nD, ∀ b ∈ Pipeline.ucRefs τ sig, r.2.mem (c, b) = W20 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := by
      refine ⟨fun _ => .rfl, fun _ => .rfl, fun _ => .rfl, fun _ => .rfl, fun _ => .rfl, fun _ => .rfl, fun _ => .rfl,
        fun _ => .rfl, fun _ => .rfl, fun _ => .rfl, fun _ => .rfl, fun _ => .rfl, fun _ => .rfl, fun _ => .rfl, fun _ => .rfl,
        fun _ => .rfl, fun _ => .rfl, fun _ => .rfl, fun _ => .rfl, fun _ => .rfl, fun c => ?_⟩
      dsimp only [Pipeline.Seg.post, hseg, Pipeline.HostSeg.ofOps]
      iintro ⟨Hheld, Hreg, Howes⟩
      isplitl [Hheld Hreg]
      · isplitl [Hheld]; · iexact Hheld
        iexact Hreg
      iexact Howes)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hreg, -⟩, -⟩
      imodintro
      isplitl [Hheld]; · iexact Hheld
      isplitl [Hreg]; · iexists _; iexact Hreg
      iexists ∅; iexact Howes)
    (QY := fun c s => ∀ b ∈ Pipeline.ucRefs τ sig, s.mem (((c : Thread nD τ)).1, b) = W20 m ρ c b)
    (hfin := fun c s' => by
      iintro ⟨⟨Hheld, -⟩, Hstate⟩
      unfold StableHlo.held
      imodintro
      iapply (pointsTo_read_all (Pipeline.ucRefs τ sig) (fun b => (((c : Thread nD τ)).1, b)) (W20 m ρ c) s')
      isplitl [Hheld] <;> iassumption)
    (hQ := fun _ h _ => h)

end Cert.Proof.Kernel

end
-- ==== Proof.Sim.lean ====
/- Two straight lines of host operations run side by side. `Sim T V V'` says that every pair of references listed in
   `T` holds the same contents under the valuation `V` of the one program and `V'` of the other. `SimLine T ops ops' T'`
   says that the lines `ops` and `ops'` take valuations which agree on `T` to valuations which agree on `T'`. Each step
   lemma consumes one operation of either line, or one of the first line alone. -/
module

public import Idealize.ShloMosaic.Lib.StableHlo.Run
public import Idealize.ShloMosaic.Lib.StableHlo.RunRead
public import Idealize.ShloMosaic.Lib.Decide

@[expose] public section

noncomputable section

namespace Cert.Proof

open Idealize.ShloMosaic Idealize.ShloMosaic.StableHlo

variable {τ τ' : Topo} {sig sig' : RefSig} {Val : EltTy → Type}

/-- The pairs listed in `T` hold the same contents under `V` and `V'`. -/
def Sim (T : List (Ref sig .tc × Ref sig' .tc)) (V : Valuation τ sig Val) (V' : Valuation τ' sig' Val) : Prop :=
  ∀ p ∈ T, HEq (V (Proc.devRef .tc p.1)) (V' (Proc.devRef .tc p.2))

/-- The two lines take agreement on `T` to agreement on `T'`. -/
def SimLine (T : List (Ref sig .tc × Ref sig' .tc)) (ops : List (HloOp τ sig Val)) (ops' : List (HloOp τ' sig' Val))
    (T' : List (Ref sig .tc × Ref sig' .tc)) : Prop :=
  ∀ V V', Sim T V V' → Sim T' (after ops V) (after ops' V')

variable {T T' : List (Ref sig .tc × Ref sig' .tc)} {ops : List (HloOp τ sig Val)} {ops' : List (HloOp τ' sig' Val)}

/-- Agreement on more pairs is agreement on fewer. -/
theorem Sim.mono {V : Valuation τ sig Val} {V' : Valuation τ' sig' Val} (h : Sim T V V') (hs : ∀ p ∈ T', p ∈ T) : Sim T' V V' :=
  fun p hp => h p (hs p hp)

/-- Empty lines keep the agreement. -/
theorem SimLine.nil (hs : (T'.all fun p => decide (p ∈ T)) = true) : SimLine T ([] : List (HloOp τ sig Val)) ([] : List (HloOp τ' sig' Val)) T' :=
  fun _ _ h => h.mono (ListAll.forall_mem_of_all_decide hs)

/-- One line after another. -/
theorem SimLine.append {T'' : List (Ref sig .tc × Ref sig' .tc)} {l : List (HloOp τ sig Val)} {l' : List (HloOp τ' sig' Val)}
    (h : SimLine T ops ops' T') (k : SimLine T' l l' T'') : SimLine T (ops ++ l) (ops' ++ l') T'' := by
  have happ {τ₀ : Topo} {sig₀ : RefSig} (a b : List (HloOp τ₀ sig₀ Val)) (W : Valuation τ₀ sig₀ Val) :
      after (a ++ b) W = after b (after a W) := by
    induction a generalizing W with
    | nil => rfl
    | cons o a ih => exact ih _
  intro V V' hV
  rw [happ, happ]
  exact k _ _ (h _ _ hV)

/-- One operation of each line: both write the references paired first, equal contents, and leave every listed pair. -/
theorem SimLine.cons {y : Ref sig .tc} {y' : Ref sig' .tc} {op : HloOp τ sig Val} {op' : HloOp τ' sig' Val}
    (hw : op.writes = {Proc.devRef .tc y}) (hw' : op'.writes = {Proc.devRef .tc y'})
    (hn : ∀ p ∈ T, p.1 ≠ y ∧ p.2 ≠ y')
    (hr : ∀ V V', Sim T V V' → HEq (op.result V (Proc.devRef .tc y)) (op'.result V' (Proc.devRef .tc y')))
    (k : SimLine ((y, y') :: T) ops ops' T') : SimLine T (op :: ops) (op' :: ops') T' := by
  intro V V' h
  refine k _ _ fun p hp => ?_
  rcases List.mem_cons.mp hp with rfl | hp
  · exact hr V V' h
  · have h1 : (Proc.devRef .tc p.1 : DevRef τ sig) ∉ op.writes := by
      rw [hw, Finset.mem_singleton]; exact devRef_ne_of_ne (hn p hp).1
    have h2 : (Proc.devRef .tc p.2 : DevRef τ' sig') ∉ op'.writes := by
      rw [hw', Finset.mem_singleton]; exact devRef_ne_of_ne (hn p hp).2
    show HEq (op.result V _) (op'.result V' _)
    rw [op.result_of_not_mem V h1, op'.result_of_not_mem V' h2]
    exact h p hp

/-- An operation of the first line alone, whose result no listed pair names. -/
theorem SimLine.skip {y : Ref sig .tc} {op : HloOp τ sig Val}
    (hw : op.writes = {Proc.devRef .tc y}) (hn : (T.all fun p => decide (p.1 ≠ y)) = true)
    (k : SimLine T ops ops' T') : SimLine T (op :: ops) ops' T' := by
  intro V V' h
  refine k _ _ fun p hp => ?_
  have h1 : (Proc.devRef .tc p.1 : DevRef τ sig) ∉ op.writes := by
    rw [hw, Finset.mem_singleton]; exact devRef_ne_of_ne (ListAll.forall_mem_of_all_decide hn p hp)
  rw [op.result_of_not_mem V h1]
  exact h p hp

variable {A A' B B' C C' D D' E E' : BufTy}

/-- Equal functions of one array at equal arrays. -/
theorem app_heq (hA : A = A') (hB : B = B') {f : A.Contents Val → B.Contents Val} {f' : A'.Contents Val → B'.Contents Val}
    (hf : HEq f f') {u : A.Contents Val} {u' : A'.Contents Val} (hu : HEq u u') : HEq (f u) (f' u') := by
  subst hA hB; cases hf; cases hu; rfl

/-- Equal functions of two arrays at equal arrays. -/
theorem app₂_heq (hA : A = A') (hB : B = B') (hC : C = C') {f : A.Contents Val → B.Contents Val → C.Contents Val}
    {f' : A'.Contents Val → B'.Contents Val → C'.Contents Val} (hf : HEq f f') {u : A.Contents Val} {u' : A'.Contents Val}
    {v : B.Contents Val} {v' : B'.Contents Val} (hu : HEq u u') (hv : HEq v v') : HEq (f u v) (f' u' v') := by
  subst hA hB hC; cases hf; cases hu; cases hv; rfl

/-- Equal functions of three arrays at equal arrays. -/
theorem app₃_heq (hA : A = A') (hB : B = B') (hC : C = C') (hD : D = D')
    {f : A.Contents Val → B.Contents Val → C.Contents Val → D.Contents Val}
    {f' : A'.Contents Val → B'.Contents Val → C'.Contents Val → D'.Contents Val} (hf : HEq f f') {u : A.Contents Val}
    {u' : A'.Contents Val} {v : B.Contents Val} {v' : B'.Contents Val} {w : C.Contents Val} {w' : C'.Contents Val}
    (hu : HEq u u') (hv : HEq v v') (hw : HEq w w') : HEq (f u v w) (f' u' v' w') := by
  subst hA hB hC hD; cases hf; cases hu; cases hv; cases hw; rfl

/-- Equal functions of four arrays at equal arrays. -/
theorem app₄_heq (hA : A = A') (hB : B = B') (hC : C = C') (hD : D = D') (hE : E = E')
    {f : A.Contents Val → B.Contents Val → C.Contents Val → D.Contents Val → E.Contents Val}
    {f' : A'.Contents Val → B'.Contents Val → C'.Contents Val → D'.Contents Val → E'.Contents Val} (hf : HEq f f')
    {u : A.Contents Val} {u' : A'.Contents Val} {v : B.Contents Val} {v' : B'.Contents Val} {w : C.Contents Val}
    {w' : C'.Contents Val} {z : D.Contents Val} {z' : D'.Contents Val}
    (hu : HEq u u') (hv : HEq v v') (hw : HEq w w') (hz : HEq z z') : HEq (f u v w z) (f' u' v' w' z') := by
  subst hA hB hC hD hE; cases hf; cases hu; cases hv; cases hw; cases hz; rfl

/-- Equal arrays re-read under equal shapes. -/
theorem shapeCast_heq (hA : A = A') (hB : B = B') (he : A.elt = B.elt) (he' : A'.elt = B'.elt)
    (hs : A.shape.ShapeCasts B.shape) (hs' : A'.shape.ShapeCasts B'.shape) {u : A.Contents Val} {u' : A'.Contents Val} (hu : HEq u u') :
    HEq (fun i => (he ▸ shapeCast B.shape u hs i : Val B.elt)) (fun i => (he' ▸ shapeCast B'.shape u' hs' i : Val B'.elt)) := by
  subst hA hB; cases hu; rfl

variable {x a b c e y : Ref sig .tc} {x' a' b' c' e' y' : Ref sig' .tc}

/-- A constant of both lines. -/
theorem SimLine.nullary {v : y.ty.Contents Val} {v' : y'.ty.Contents Val} {hy hy'}
    (hn : (T.all fun p => decide (p.1 ≠ y ∧ p.2 ≠ y')) = true := by decide +kernel) (hf : HEq v v' := by exact HEq.rfl)
    (k : SimLine ((y, y') :: T) ops ops' T') :
    SimLine T (nullary (τ := τ) y v hy :: ops) (nullary (τ := τ') y' v' hy' :: ops') T' :=
  .cons rfl rfl (ListAll.forall_mem_of_all_decide hn) (fun V V' _ => by rw [nullary_result, nullary_result]; exact hf) k

/-- One operand. -/
theorem SimLine.unary {f : x.ty.Contents Val → y.ty.Contents Val} {f' : x'.ty.Contents Val → y'.ty.Contents Val}
    {hx hy hx' hy'} (hm : (x, x') ∈ T := by decide +kernel)
    (hn : (T.all fun p => decide (p.1 ≠ y ∧ p.2 ≠ y')) = true := by decide +kernel) (tx : x.ty = x'.ty := by decide +kernel) (ty : y.ty = y'.ty := by decide +kernel)
    (hf : HEq f f' := by exact HEq.rfl)
    (k : SimLine ((y, y') :: T) ops ops' T') :
    SimLine T (unary (τ := τ) x y f hx hy :: ops) (unary (τ := τ') x' y' f' hx' hy' :: ops') T' :=
  .cons rfl rfl (ListAll.forall_mem_of_all_decide hn) (fun V V' h => by rw [unary_result, unary_result]; exact app_heq tx ty hf (h _ hm)) k

/-- A re-reading of one operand's elements under another shape. -/
theorem SimLine.reshape {he : x.ty.elt = y.ty.elt} {he' : x'.ty.elt = y'.ty.elt} {hs hs' hx hy hx' hy'} (hm : (x, x') ∈ T := by decide +kernel)
    (hn : (T.all fun p => decide (p.1 ≠ y ∧ p.2 ≠ y')) = true := by decide +kernel)
    (tx : x.ty = x'.ty := by decide +kernel) (ty : y.ty = y'.ty := by decide +kernel)
    (k : SimLine ((y, y') :: T) ops ops' T') :
    SimLine T (reshape (τ := τ) (Val := Val) x y he hs hx hy :: ops) (reshape (τ := τ') (Val := Val) x' y' he' hs' hx' hy' :: ops') T' :=
  .cons rfl rfl (ListAll.forall_mem_of_all_decide hn) (fun V V' h => by rw [reshape_result, reshape_result]; exact shapeCast_heq tx ty _ _ _ _ (h _ hm)) k

/-- Two operands. -/
theorem SimLine.binary {f : a.ty.Contents Val → b.ty.Contents Val → y.ty.Contents Val}
    {f' : a'.ty.Contents Val → b'.ty.Contents Val → y'.ty.Contents Val}
    {ha hb hy ha' hb' hy'} (hma : (a, a') ∈ T := by decide +kernel) (hmb : (b, b') ∈ T := by decide +kernel)
    (hn : (T.all fun p => decide (p.1 ≠ y ∧ p.2 ≠ y')) = true := by decide +kernel) (ta : a.ty = a'.ty := by decide +kernel) (tb : b.ty = b'.ty := by decide +kernel) (ty : y.ty = y'.ty := by decide +kernel)
    (hf : HEq f f' := by exact HEq.rfl)
    (k : SimLine ((y, y') :: T) ops ops' T') :
    SimLine T (binary (τ := τ) a b y f ha hb hy :: ops) (binary (τ := τ') a' b' y' f' ha' hb' hy' :: ops') T' :=
  .cons rfl rfl (ListAll.forall_mem_of_all_decide hn) (fun V V' h => by rw [binary_result, binary_result]; exact app₂_heq ta tb ty hf (h _ hma) (h _ hmb)) k

/-- Three operands. -/
theorem SimLine.ternary {f : c.ty.Contents Val → a.ty.Contents Val → b.ty.Contents Val → y.ty.Contents Val}
    {f' : c'.ty.Contents Val → a'.ty.Contents Val → b'.ty.Contents Val → y'.ty.Contents Val}
    {hc ha hb hy hc' ha' hb' hy'} (hmc : (c, c') ∈ T := by decide +kernel) (hma : (a, a') ∈ T := by decide +kernel) (hmb : (b, b') ∈ T := by decide +kernel)
    (hn : (T.all fun p => decide (p.1 ≠ y ∧ p.2 ≠ y')) = true := by decide +kernel)
    (tc : c.ty = c'.ty := by decide +kernel) (ta : a.ty = a'.ty := by decide +kernel) (tb : b.ty = b'.ty := by decide +kernel) (ty : y.ty = y'.ty := by decide +kernel)
    (hf : HEq f f' := by exact HEq.rfl)
    (k : SimLine ((y, y') :: T) ops ops' T') :
    SimLine T (ternary (τ := τ) c a b y f hc ha hb hy :: ops) (ternary (τ := τ') c' a' b' y' f' hc' ha' hb' hy' :: ops') T' :=
  .cons rfl rfl (ListAll.forall_mem_of_all_decide hn) (fun V V' h => by
    rw [ternary_result, ternary_result]; exact app₃_heq tc ta tb ty hf (h _ hmc) (h _ hma) (h _ hmb)) k

/-- Four operands. -/
theorem SimLine.quaternary {f : a.ty.Contents Val → b.ty.Contents Val → c.ty.Contents Val → e.ty.Contents Val → y.ty.Contents Val}
    {f' : a'.ty.Contents Val → b'.ty.Contents Val → c'.ty.Contents Val → e'.ty.Contents Val → y'.ty.Contents Val}
    {ha hb hc he hy ha' hb' hc' he' hy'} (hma : (a, a') ∈ T := by decide +kernel) (hmb : (b, b') ∈ T := by decide +kernel) (hmc : (c, c') ∈ T := by decide +kernel) (hme : (e, e') ∈ T := by decide +kernel)
    (hn : (T.all fun p => decide (p.1 ≠ y ∧ p.2 ≠ y')) = true := by decide +kernel)
    (ta : a.ty = a'.ty := by decide +kernel) (tb : b.ty = b'.ty := by decide +kernel) (tc : c.ty = c'.ty := by decide +kernel) (te : e.ty = e'.ty := by decide +kernel) (ty : y.ty = y'.ty := by decide +kernel)
    (hf : HEq f f' := by exact HEq.rfl)
    (k : SimLine ((y, y') :: T) ops ops' T') :
    SimLine T (quaternary (τ := τ) a b c e y f ha hb hc he hy :: ops)
      (quaternary (τ := τ') a' b' c' e' y' f' ha' hb' hc' he' hy' :: ops') T' :=
  .cons rfl rfl (ListAll.forall_mem_of_all_decide hn) (fun V V' h => by
    rw [quaternary_result, quaternary_result]
    exact app₄_heq ta tb tc te ty hf (h _ hma) (h _ hmb) (h _ hmc) (h _ hme)) k

/-- The line writes none of the references listed in `L`. -/
def Keeps (L : List (Ref sig .tc)) (ops : List (HloOp τ sig Val)) : Prop :=
  ∀ r ∈ L, ∀ V : Valuation τ sig Val, after ops V (Proc.devRef .tc r) = V (Proc.devRef .tc r)

theorem Keeps.append {L : List (Ref sig .tc)} {l : List (HloOp τ sig Val)} (h : Keeps L ops) (k : Keeps L l) : Keeps L (ops ++ l) := by
  have happ (a b : List (HloOp τ sig Val)) (W : Valuation τ sig Val) : after (a ++ b) W = after b (after a W) := by
    induction a generalizing W with
    | nil => rfl
    | cons o a ih => exact ih _
  intro r hr V
  rw [happ, k r hr, h r hr]

/-- From the references the line writes, in order. -/
theorem Keeps.of_writes {L : List (Ref sig .tc)} (W : List (Ref sig .tc))
    (hW : ops.map HloOp.writes = W.map fun w => {Proc.devRef (τ := τ) .tc w}) (h : ∀ r ∈ L, r ∉ W) : Keeps L ops :=
  fun r hr V => after_unwritten W hW (h r hr) V

end Cert.Proof

end
-- ==== Proof.RefOps.lean ====
/- The reference's @main as straight lines of host operations, cut where the kernel's host stretches end, and its run:
   every buffer ends at the fold of the operations over its launch contents, the arguments unchanged and every
   semaphore counter at zero. -/
module

public import proofs.«01_k».proof.Proof.Gen.ReferenceIdeal
public import proofs.«01_k».proof.Proof.Sim
public import Idealize.ShloMosaic.Lib.StableHlo.Run
public import Idealize.ShloMosaic.Lib.Quiescent
public import Idealize.ShloMosaic.Lib.Claim

@[expose] public section

set_option maxRecDepth 16384

noncomputable section

namespace Cert.Proof.Ref

open Idealize.ShloMosaic Idealize.ShloMosaic.StableHlo Idealize.ShloMosaic.TcCoe Idealize.SL.Sem
open Cert.ReferenceIdeal Cert.ReferenceIdeal.Facts₀ Cert.ReferenceIdeal.Facts

variable {F : FTy → Type} [FloatOps F]

/-! ## The functions @main calls, as lines over their arguments and one call's buffers -/

/-- The operations of `fn_where` at one call. -/
abbrev whereOps (arg0 : TRef sig ⟨S_, .i1⟩) (arg1 : TRef sig ⟨S1x2048x1, .f32⟩) (arg2 : TRef sig ⟨S_, .f32⟩) (φ : fn_where.Bufs) : List (HloOp τ sig (Elt F)) :=
  [ TRef.unary arg2 φ.v0 id,
    TRef.unary φ.v0 φ.v1 (broadcastInDim S1x2048x1 ![] bcast_S_S1x2048x1),
    TRef.ternary arg0 arg1 φ.v1 φ.v2 (fun p a b => select (broadcastInDim S1x2048x1 ![] bcast_S_S1x2048x1 p) a b) ]

/-- The operations of `fn_var` at one call. -/
abbrev varOps (arg0 : TRef sig ⟨S1x2048x1024, .f32⟩) (arg1 : TRef sig ⟨S_, .i32⟩) (φ : fn_var.Bufs) : List (HloOp τ sig (Elt F)) :=
  [ TRef.nullary φ.cst (constant S_ .f32 0x00000000#32),
    TRef.binary arg0 φ.cst φ.v0 (fun x v => Host.reduceAdd x v reducesTo_S1x2048x1024_S1x2048_d2 h_S_),
    TRef.unary φ.v0 φ.v1 (broadcastInDim S1x2048x1 ![0, 1] bcast_S1x2048_S1x2048x1_0_1),
    TRef.nullary φ.cst_0 (constant S_ .f32 0x44800000#32),
    TRef.unary φ.cst_0 φ.v2 (broadcastInDim S1x2048x1 ![] bcast_S_S1x2048x1),
    TRef.binary φ.v1 φ.v2 φ.v3 Host.divf,
    TRef.unary φ.v3 φ.v4 (broadcastInDim S1x2048x1024 ![0, 1, 2] bcast_S1x2048x1_S1x2048x1024_0_1_2),
    TRef.binary arg0 φ.v4 φ.v5 subf,
    TRef.binary φ.v5 φ.v5 φ.v6 mulf,
    TRef.unary arg1 φ.v7 (sitofp .f32),
    TRef.nullary φ.cst_1 (constant S_ .f32 0x44800000#32),
    TRef.binary φ.cst_1 φ.v7 φ.v8 subf,
    TRef.nullary φ.cst_2 (constant S_ .f32 0x00000000#32),
    TRef.binary φ.v6 φ.cst_2 φ.v9 (fun x v => Host.reduceAdd x v reducesTo_S1x2048x1024_S1x2048_d2 h_S_),
    TRef.unary φ.v9 φ.v10 (broadcastInDim S1x2048x1 ![0, 1] bcast_S1x2048_S1x2048x1_0_1),
    TRef.unary φ.v8 φ.v11 (broadcastInDim S1x2048x1 ![] bcast_S_S1x2048x1),
    TRef.binary φ.v10 φ.v11 φ.v12 Host.divf,
    TRef.nullary φ.cst_3 (constant S_ .f32 0x00000000#32),
    TRef.binary φ.v8 φ.cst_3 φ.v13 (cmpf .ogt),
    TRef.nullary φ.cst_4 (constant S_ .f32 0x7FC00000#32) ] ++
  whereOps φ.v13 φ.v12 φ.cst_4 φ.call0

/-- The operations of `fn_argmax` at one call. -/
abbrev argmaxOps (arg0 : TRef sig ⟨S1x2048x8, .f32⟩) (φ : fn_argmax.Bufs) : List (HloOp τ sig (Elt F)) :=
  [ TRef.nullary φ.v0 (iotaInDim S1x2048x8 32 2),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S1x2048x8_S1x2048_d2 h_S_ j).1),
    TRef.quaternary arg0 φ.v0 φ.cst φ.c φ.v1_1 (fun x y u v j => (Host.argReduce reducer_argmax_f32_i32 x y u v reducesTo_S1x2048x8_S1x2048_d2 h_S_ j).2) ]

/-- The operations of `fn_one_hot` at one call. -/
abbrev oneHotOps (arg0 : TRef sig ⟨S1x2048, .i32⟩) (φ : fn_one_hot.Bufs) : List (HloOp τ sig (Elt F)) :=
  [ TRef.unary arg0 φ.v0 (broadcastInDim S1x2048x1 ![0, 1] bcast_S1x2048_S1x2048x1_0_1),
    TRef.nullary φ.v1 (iotaInDim S1x1x8 32 2),
    TRef.unary φ.v0 φ.v2 (broadcastInDim S1x2048x8 ![0, 1, 2] bcast_S1x2048x1_S1x2048x8_0_1_2),
    TRef.unary φ.v1 φ.v3 (broadcastInDim S1x2048x8 ![0, 1, 2] bcast_S1x1x8_S1x2048x8_0_1_2),
    TRef.binary φ.v2 φ.v3 φ.v4 (cmpi .eq),
    TRef.unary φ.v4 φ.v5 (extui 32 · natLt_1_32) ]

/-- The operations of `fn_cumsum_0` at one call. -/
abbrev cumsum0Ops (arg0 : TRef sig ⟨S1x2048x8, .i32⟩) (φ : fn_cumsum_0.Bufs) : List (HloOp τ sig (Elt F)) :=
  [ TRef.nullary φ.c (constantI S_ 32 0#32),
    TRef.unary φ.c φ.v0 (broadcastInDim S_ ![] bcast_S_S_),
    TRef.binary arg0 φ.v0 φ.v1 (fun x v => Host.reduceWindow IntOp.addi ![1, 2048, 1] ![1, 1, 1] ![0, 2047, 0] ![0, 0, 0] x v reduceWindows_S1x2048x8_S1x2048x8_w1s1p0_0_w2048s1p2047_0_w1s1p0_0 h_S_) ]

/-- The operations of `fn_cumsum` at one call. -/
abbrev cumsumOps (arg0 : TRef sig ⟨S1x2048x8, .i32⟩) (φ : fn_cumsum.Bufs) : List (HloOp τ sig (Elt F)) :=
  cumsum0Ops arg0 φ.call0

/-- The operations of `fn_one_hot_1` at one call. -/
abbrev oneHot1Ops (arg0 : TRef sig ⟨S1x2048, .i32⟩) (φ : fn_one_hot_1.Bufs) : List (HloOp τ sig (Elt F)) :=
  [ TRef.unary arg0 φ.v0 (broadcastInDim S1x2048x1 ![0, 1] bcast_S1x2048_S1x2048x1_0_1),
    TRef.nullary φ.v1 (iotaInDim S1x1x8 32 2),
    TRef.unary φ.v0 φ.v2 (broadcastInDim S1x2048x8 ![0, 1, 2] bcast_S1x2048x1_S1x2048x8_0_1_2),
    TRef.unary φ.v1 φ.v3 (broadcastInDim S1x2048x8 ![0, 1, 2] bcast_S1x1x8_S1x2048x8_0_1_2),
    TRef.binary φ.v2 φ.v3 φ.v4 (cmpi .eq),
    TRef.unary φ.v4 φ.v5 (uitofp .f32) ]

/-- The operations of `fn_one_hot_2` at one call. -/
abbrev oneHot2Ops (arg0 : TRef sig ⟨S1x2048x8, .i32⟩) (φ : fn_one_hot_2.Bufs) : List (HloOp τ sig (Elt F)) :=
  [ TRef.unary arg0 φ.v0 (broadcastInDim S1x2048x8x1 ![0, 1, 2] bcast_S1x2048x8_S1x2048x8x1_0_1_2),
    TRef.nullary φ.v1 (iotaInDim S1x1x1x512 32 3),
    TRef.unary φ.v0 φ.v2 (broadcastInDim S1x2048x8x512 ![0, 1, 2, 3] bcast_S1x2048x8x1_S1x2048x8x512_0_1_2_3),
    TRef.unary φ.v1 φ.v3 (broadcastInDim S1x2048x8x512 ![0, 1, 2, 3] bcast_S1x1x1x512_S1x2048x8x512_0_1_2_3),
    TRef.binary φ.v2 φ.v3 φ.v4 (cmpi .eq),
    TRef.unary φ.v4 φ.v5 (uitofp .f32) ]

/-! ## The stretches of @main -/

/-- Operations of @main: those beside the kernel's `hostOps0`. -/
abbrev ops0 : List (HloOp τ sig (Elt F)) :=
  [ unary main_arg1 main_v0 ((transpose S1024x3072 [1, 0] · transposes_S3072x1024_S1024x3072_1_0) : (⟨S3072x1024, .f32⟩ : BufTy).Contents (Elt F) → (⟨S1024x3072, .f32⟩ : BufTy).Contents (Elt F)),
    binary main_arg0 main_v0 main_v1 ((fun l r => Host.dotGeneral dot_S1x2048x1024_S1024x3072_S1x2048x3072_2_0_01_1_n_n none l r) : (⟨S1x2048x1024, .f32⟩ : BufTy).Contents (Elt F) → (⟨S1024x3072, .f32⟩ : BufTy).Contents (Elt F) → (⟨S1x2048x3072, .f32⟩ : BufTy).Contents (Elt F)),
    unary main_arg2 main_v2 (broadcastInDim S1x1x3072 ![2] bcast_S3072_S1x1x3072_2 : (⟨S3072, .f32⟩ : BufTy).Contents (Elt F) → (⟨S1x1x3072, .f32⟩ : BufTy).Contents (Elt F)),
    unary main_v2 main_v3 (broadcastInDim S1x2048x3072 ![0, 1, 2] bcast_S1x1x3072_S1x2048x3072_0_1_2 : (⟨S1x1x3072, .f32⟩ : BufTy).Contents (Elt F) → (⟨S1x2048x3072, .f32⟩ : BufTy).Contents (Elt F)),
    binary main_v1 main_v3 main_v4 (addf : (⟨S1x2048x3072, .f32⟩ : BufTy).Contents (Elt F) → (⟨S1x2048x3072, .f32⟩ : BufTy).Contents (Elt F) → (⟨S1x2048x3072, .f32⟩ : BufTy).Contents (Elt F)),
    unary main_v4 main_v5 ((extractStridedSlice S1x2048x1024 ![0, 0, 0] · slices_S1x2048x3072_S1x2048x1024_0_0_0) : (⟨S1x2048x3072, .f32⟩ : BufTy).Contents (Elt F) → (⟨S1x2048x1024, .f32⟩ : BufTy).Contents (Elt F)),
    unary main_v4 main_v6 ((extractStridedSlice S1x2048x1024 ![0, 0, 1024] · slices_S1x2048x3072_S1x2048x1024_0_0_1024) : (⟨S1x2048x3072, .f32⟩ : BufTy).Contents (Elt F) → (⟨S1x2048x1024, .f32⟩ : BufTy).Contents (Elt F)),
    unary main_v4 main_v7 ((extractStridedSlice S1x2048x1024 ![0, 0, 2048] · slices_S1x2048x3072_S1x2048x1024_0_0_2048) : (⟨S1x2048x3072, .f32⟩ : BufTy).Contents (Elt F) → (⟨S1x2048x1024, .f32⟩ : BufTy).Contents (Elt F)),
    reshape main_v5 main_v8 (rfl : (.f32 : EltTy) = .f32) shapeCasts_S1x2048x1024_S1x2048x16x64,
    unary main_v8 main_v9 ((transpose S1x16x2048x64 [0, 2, 1, 3] · transposes_S1x2048x16x64_S1x16x2048x64_0_2_1_3) : (⟨S1x2048x16x64, .f32⟩ : BufTy).Contents (Elt F) → (⟨S1x16x2048x64, .f32⟩ : BufTy).Contents (Elt F)),
    reshape main_v6 main_v10 (rfl : (.f32 : EltTy) = .f32) shapeCasts_S1x2048x1024_S1x2048x16x64,
    unary main_v10 main_v11 ((transpose S1x16x2048x64 [0, 2, 1, 3] · transposes_S1x2048x16x64_S1x16x2048x64_0_2_1_3) : (⟨S1x2048x16x64, .f32⟩ : BufTy).Contents (Elt F) → (⟨S1x16x2048x64, .f32⟩ : BufTy).Contents (Elt F)),
    reshape main_v7 main_v12 (rfl : (.f32 : EltTy) = .f32) shapeCasts_S1x2048x1024_S1x2048x16x64,
    unary main_v12 main_v13 ((transpose S1x16x2048x64 [0, 2, 1, 3] · transposes_S1x2048x16x64_S1x16x2048x64_0_2_1_3) : (⟨S1x2048x16x64, .f32⟩ : BufTy).Contents (Elt F) → (⟨S1x16x2048x64, .f32⟩ : BufTy).Contents (Elt F)) ]

/-- Operations of @main: layer 0's scores. -/
abbrev opsS0 : List (HloOp τ sig (Elt F)) :=
  [ binary main_v9 main_v11 main_v14 ((fun l r => Host.dotGeneral dot_S1x16x2048x64_S1x16x2048x64_S1x16x2048x2048_3_3_2_2_01_01 none l r) : (⟨S1x16x2048x64, .f32⟩ : BufTy).Contents (Elt F) → (⟨S1x16x2048x64, .f32⟩ : BufTy).Contents (Elt F) → (⟨S1x16x2048x2048, .f32⟩ : BufTy).Contents (Elt F)),
    nullary main_cst (constant S_ .f32 0x41000000#32),
    unary main_cst main_v15 (broadcastInDim S1x16x2048x2048 ![] bcast_S_S1x16x2048x2048 : (⟨S_, .f32⟩ : BufTy).Contents (Elt F) → (⟨S1x16x2048x2048, .f32⟩ : BufTy).Contents (Elt F)),
    binary main_v14 main_v15 main_v16 (Host.divf : (⟨S1x16x2048x2048, .f32⟩ : BufTy).Contents (Elt F) → (⟨S1x16x2048x2048, .f32⟩ : BufTy).Contents (Elt F) → (⟨S1x16x2048x2048, .f32⟩ : BufTy).Contents (Elt F)) ]

/-- Operations of @main: those beside the kernel's `hostOps1`. -/
abbrev ops1 : List (HloOp τ sig (Elt F)) :=
  [ nullary main_cst_0 (constant S_ .f32 0xFF800000#32),
    binary main_v16 main_cst_0 main_v17 ((fun x v => Host.reduce FloatOps.maximumf x v reducesTo_S1x16x2048x2048_S1x16x2048_d3 h_S_) : (⟨S1x16x2048x2048, .f32⟩ : BufTy).Contents (Elt F) → (⟨S_, .f32⟩ : BufTy).Contents (Elt F) → (⟨S1x16x2048, .f32⟩ : BufTy).Contents (Elt F)),
    nullary main_cst_1 (constant S_ .f32 0xFF800000#32),
    unary main_cst_1 main_v18 (broadcastInDim S1x16x2048 ![] bcast_S_S1x16x2048 : (⟨S_, .f32⟩ : BufTy).Contents (Elt F) → (⟨S1x16x2048, .f32⟩ : BufTy).Contents (Elt F)),
    binary main_v18 main_v17 main_v19 (maximumf : (⟨S1x16x2048, .f32⟩ : BufTy).Contents (Elt F) → (⟨S1x16x2048, .f32⟩ : BufTy).Contents (Elt F) → (⟨S1x16x2048, .f32⟩ : BufTy).Contents (Elt F)),
    unary main_v19 main_v20 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    unary main_v20 main_v21 (broadcastInDim S1x16x2048x2048 ![0, 1, 2, 3] bcast_S1x16x2048x1_S1x16x2048x2048_0_1_2_3 : (⟨S1x16x2048x1, .f32⟩ : BufTy).Contents (Elt F) → (⟨S1x16x2048x2048, .f32⟩ : BufTy).Contents (Elt F)),
    binary main_v16 main_v21 main_v22 (subf : (⟨S1x16x2048x2048, .f32⟩ : BufTy).Contents (Elt F) → (⟨S1x16x2048x2048, .f32⟩ : BufTy).Contents (Elt F) → (⟨S1x16x2048x2048, .f32⟩ : BufTy).Contents (Elt F)),
    unary main_v22 main_v23 (Host.exp : (⟨S1x16x2048x2048, .f32⟩ : BufTy).Contents (Elt F) → (⟨S1x16x2048x2048, .f32⟩ : BufTy).Contents (Elt F)),
    nullary main_cst_2 (constant S_ .f32 0x00000000#32),
    binary main_v23 main_cst_2 main_v24 ((fun x v => Host.reduceAdd x v reducesTo_S1x16x2048x2048_S1x16x2048_d3 h_S_) : (⟨S1x16x2048x2048, .f32⟩ : BufTy).Contents (Elt F) → (⟨S_, .f32⟩ : BufTy).Contents (Elt F) → (⟨S1x16x2048, .f32⟩ : BufTy).Contents (Elt F)),
    unary main_v24 main_v25 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    unary main_v25 main_v26 (broadcastInDim S1x16x2048x2048 ![0, 1, 2, 3] bcast_S1x16x2048x1_S1x16x2048x2048_0_1_2_3 : (⟨S1x16x2048x1, .f32⟩ : BufTy).Contents (Elt F) → (⟨S1x16x2048x2048, .f32⟩ : BufTy).Contents (Elt F)),
    binary main_v23 main_v26 main_v27 (Host.divf : (⟨S1x16x2048x2048, .f32⟩ : BufTy).Contents (Elt F) → (⟨S1x16x2048x2048, .f32⟩ : BufTy).Contents (Elt F) → (⟨S1x16x2048x2048, .f32⟩ : BufTy).Contents (Elt F)),
    reshape main_v27 main_v28 (rfl : (.f32 : EltTy) = .f32) shapeCasts_S1x16x2048x2048_S16x2048x2048,
    reshape main_v13 main_v29 (rfl : (.f32 : EltTy) = .f32) shapeCasts_S1x16x2048x64_S16x2048x64,
    binary main_v28 main_v29 main_v30 ((fun l r => Host.dotGeneral dot_S16x2048x2048_S16x2048x64_S16x2048x64_2_1_1_2_0_0 none l r) : (⟨S16x2048x2048, .f32⟩ : BufTy).Contents (Elt F) → (⟨S16x2048x64, .f32⟩ : BufTy).Contents (Elt F) → (⟨S16x2048x64, .f32⟩ : BufTy).Contents (Elt F)),
    unary main_v30 main_v31 (broadcastInDim S1x16x2048x64 ![1, 2, 3] bcast_S16x2048x64_S1x16x2048x64_1_2_3 : (⟨S16x2048x64, .f32⟩ : BufTy).Contents (Elt F) → (⟨S1x16x2048x64, .f32⟩ : BufTy).Contents (Elt F)),
    unary main_v31 main_v32 ((transpose S1x2048x16x64 [0, 2, 1, 3] · transposes_S1x16x2048x64_S1x2048x16x64_0_2_1_3) : (⟨S1x16x2048x64, .f32⟩ : BufTy).Contents (Elt F) → (⟨S1x2048x16x64, .f32⟩ : BufTy).Contents (Elt F)),
    reshape main_v32 main_v33 (rfl : (.f32 : EltTy) = .f32) shapeCasts_S1x2048x16x64_S1x2048x1024,
    unary main_arg3 main_v34 ((transpose S1024x1024 [1, 0] · transposes_S1024x1024_S1024x1024_1_0) : (⟨S1024x1024, .f32⟩ : BufTy).Contents (Elt F) → (⟨S1024x1024, .f32⟩ : BufTy).Contents (Elt F)),
    binary main_v33 main_v34 main_v35 ((fun l r => Host.dotGeneral dot_S1x2048x1024_S1024x1024_S1x2048x1024_2_0_01_1_n_n none l r) : (⟨S1x2048x1024, .f32⟩ : BufTy).Contents (Elt F) → (⟨S1024x1024, .f32⟩ : BufTy).Contents (Elt F) → (⟨S1x2048x1024, .f32⟩ : BufTy).Contents (Elt F)),
    unary main_arg4 main_v36 (broadcastInDim S1x1x1024 ![2] bcast_S1024_S1x1x1024_2 : (⟨S1024, .f32⟩ : BufTy).Contents (Elt F) → (⟨S1x1x1024, .f32⟩ : BufTy).Contents (Elt F)),
    unary main_v36 main_v37 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v35 main_v37 main_v38 (addf : (⟨S1x2048x1024, .f32⟩ : BufTy).Contents (Elt F) → (⟨S1x2048x1024, .f32⟩ : BufTy).Contents (Elt F) → (⟨S1x2048x1024, .f32⟩ : BufTy).Contents (Elt F)),
    binary main_arg0 main_v38 main_v39 (addf : (⟨S1x2048x1024, .f32⟩ : BufTy).Contents (Elt F) → (⟨S1x2048x1024, .f32⟩ : BufTy).Contents (Elt F) → (⟨S1x2048x1024, .f32⟩ : BufTy).Contents (Elt F)),
    nullary main_cst_3 (constant S_ .f32 0x00000000#32),
    binary main_v39 main_cst_3 main_v40 ((fun x v => Host.reduceAdd x v reducesTo_S1x2048x1024_S1x2048_d2 h_S_) : (⟨S1x2048x1024, .f32⟩ : BufTy).Contents (Elt F) → (⟨S_, .f32⟩ : BufTy).Contents (Elt F) → (⟨S1x2048, .f32⟩ : BufTy).Contents (Elt F)),
    unary main_v40 main_v41 (broadcastInDim S1x2048x1 ![0, 1] bcast_S1x2048_S1x2048x1_0_1 : (⟨S1x2048, .f32⟩ : BufTy).Contents (Elt F) → (⟨S1x2048x1, .f32⟩ : BufTy).Contents (Elt F)),
    nullary main_cst_4 (constant S_ .f32 0x44800000#32),
    unary main_cst_4 main_v42 (broadcastInDim S1x2048x1 ![] bcast_S_S1x2048x1 : (⟨S_, .f32⟩ : BufTy).Contents (Elt F) → (⟨S1x2048x1, .f32⟩ : BufTy).Contents (Elt F)),
    binary main_v41 main_v42 main_v43 (Host.divf : (⟨S1x2048x1, .f32⟩ : BufTy).Contents (Elt F) → (⟨S1x2048x1, .f32⟩ : BufTy).Contents (Elt F) → (⟨S1x2048x1, .f32⟩ : BufTy).Contents (Elt F)),
    nullary main_c (constantI S_ 32 0#32) ]

/-- Operations of @main: those beside the kernel's `hostOps1_1`. -/
abbrev ops1_1 : List (HloOp τ sig (Elt F)) :=
  varOps (.of main_v39) (.of main_c) main_call0

/-- Operations of @main: those beside the kernel's `hostOps1_2`, as far as they lie in `main_part0`. -/
abbrev ops1_2_part0 : List (HloOp τ sig (Elt F)) :=
  [ unary main_v43 main_v45 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_v39 main_v45 main_v46 (subf : (⟨S1x2048x1024, .f32⟩ : BufTy).Contents (Elt F) → (⟨S1x2048x1024, .f32⟩ : BufTy).Contents (Elt F) → (⟨S1x2048x1024, .f32⟩ : BufTy).Contents (Elt F)),
    nullary main_cst_5 (constant S_ .f32 0x3727C5AC#32),
    unary main_cst_5 main_v47 (broadcastInDim S1x2048x1 ![] bcast_S_S1x2048x1 : (⟨S_, .f32⟩ : BufTy).Contents (Elt F) → (⟨S1x2048x1, .f32⟩ : BufTy).Contents (Elt F)),
    binary main_v44 main_v47 main_v48 (addf : (⟨S1x2048x1, .f32⟩ : BufTy).Contents (Elt F) → (⟨S1x2048x1, .f32⟩ : BufTy).Contents (Elt F) → (⟨S1x2048x1, .f32⟩ : BufTy).Contents (Elt F)),
    unary main_v48 main_v49 (Host.sqrt : (⟨S1x2048x1, .f32⟩ : BufTy).Contents (Elt F) → (⟨S1x2048x1, .f32⟩ : BufTy).Contents (Elt F)),
    unary main_v49 main_v50 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_v46 main_v50 main_v51 (Host.divf : (⟨S1x2048x1024, .f32⟩ : BufTy).Contents (Elt F) → (⟨S1x2048x1024, .f32⟩ : BufTy).Contents (Elt F) → (⟨S1x2048x1024, .f32⟩ : BufTy).Contents (Elt F)) ]

/-- Operations of @main: those beside the kernel's `hostOps1_2`, as far as they lie in `main_part1`. -/
abbrev ops1_2_part1 : List (HloOp τ sig (Elt F)) :=
  [ unary main_arg9 main_v52 (broadcastInDim S1x1x1024 ![2] bcast_S1024_S1x1x1024_2 : (⟨S1024, .f32⟩ : BufTy).Contents (Elt F) → (⟨S1x1x1024, .f32⟩ : BufTy).Contents (Elt F)),
    unary main_v52 main_v53 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v51 main_v53 main_v54 (mulf : (⟨S1x2048x1024, .f32⟩ : BufTy).Contents (Elt F) → (⟨S1x2048x1024, .f32⟩ : BufTy).Contents (Elt F) → (⟨S1x2048x1024, .f32⟩ : BufTy).Contents (Elt F)),
    unary main_arg10 main_v55 (broadcastInDim S1x1x1024 ![2] bcast_S1024_S1x1x1024_2 : (⟨S1024, .f32⟩ : BufTy).Contents (Elt F) → (⟨S1x1x1024, .f32⟩ : BufTy).Contents (Elt F)),
    unary main_v55 main_v56 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v54 main_v56 main_v57 (addf : (⟨S1x2048x1024, .f32⟩ : BufTy).Contents (Elt F) → (⟨S1x2048x1024, .f32⟩ : BufTy).Contents (Elt F) → (⟨S1x2048x1024, .f32⟩ : BufTy).Contents (Elt F)),
    unary main_arg5 main_v58 ((transpose S1024x4096 [1, 0] · transposes_S4096x1024_S1024x4096_1_0) : (⟨S4096x1024, .f32⟩ : BufTy).Contents (Elt F) → (⟨S1024x4096, .f32⟩ : BufTy).Contents (Elt F)),
    binary main_v57 main_v58 main_v59 ((fun l r => Host.dotGeneral dot_S1x2048x1024_S1024x4096_S1x2048x4096_2_0_01_1_n_n none l r) : (⟨S1x2048x1024, .f32⟩ : BufTy).Contents (Elt F) → (⟨S1024x4096, .f32⟩ : BufTy).Contents (Elt F) → (⟨S1x2048x4096, .f32⟩ : BufTy).Contents (Elt F)),
    unary main_arg6 main_v60 (broadcastInDim S1x1x4096 ![2] bcast_S4096_S1x1x4096_2 : (⟨S4096, .f32⟩ : BufTy).Contents (Elt F) → (⟨S1x1x4096, .f32⟩ : BufTy).Contents (Elt F)),
    unary main_v60 main_v61 (broadcastInDim S1x2048x4096 ![0, 1, 2] bcast_S1x1x4096_S1x2048x4096_0_1_2 : (⟨S1x1x4096, .f32⟩ : BufTy).Contents (Elt F) → (⟨S1x2048x4096, .f32⟩ : BufTy).Contents (Elt F)),
    binary main_v59 main_v61 main_v62 (addf : (⟨S1x2048x4096, .f32⟩ : BufTy).Contents (Elt F) → (⟨S1x2048x4096, .f32⟩ : BufTy).Contents (Elt F) → (⟨S1x2048x4096, .f32⟩ : BufTy).Contents (Elt F)),
    nullary main_cst_6 (constant S_ .f32 0x00000000#32),
    unary main_cst_6 main_v63 (broadcastInDim S1x2048x4096 ![] bcast_S_S1x2048x4096 : (⟨S_, .f32⟩ : BufTy).Contents (Elt F) → (⟨S1x2048x4096, .f32⟩ : BufTy).Contents (Elt F)),
    binary main_v62 main_v63 main_v64 (maximumf : (⟨S1x2048x4096, .f32⟩ : BufTy).Contents (Elt F) → (⟨S1x2048x4096, .f32⟩ : BufTy).Contents (Elt F) → (⟨S1x2048x4096, .f32⟩ : BufTy).Contents (Elt F)),
    unary main_arg7 main_v65 ((transpose S4096x1024 [1, 0] · transposes_S1024x4096_S4096x1024_1_0) : (⟨S1024x4096, .f32⟩ : BufTy).Contents (Elt F) → (⟨S4096x1024, .f32⟩ : BufTy).Contents (Elt F)),
    binary main_v64 main_v65 main_v66 ((fun l r => Host.dotGeneral dot_S1x2048x4096_S4096x1024_S1x2048x1024_2_0_01_1_n_n none l r) : (⟨S1x2048x4096, .f32⟩ : BufTy).Contents (Elt F) → (⟨S4096x1024, .f32⟩ : BufTy).Contents (Elt F) → (⟨S1x2048x1024, .f32⟩ : BufTy).Contents (Elt F)),
    unary main_arg8 main_v67 (broadcastInDim S1x1x1024 ![2] bcast_S1024_S1x1x1024_2 : (⟨S1024, .f32⟩ : BufTy).Contents (Elt F) → (⟨S1x1x1024, .f32⟩ : BufTy).Contents (Elt F)),
    unary main_v67 main_v68 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v66 main_v68 main_v69 (addf : (⟨S1x2048x1024, .f32⟩ : BufTy).Contents (Elt F) → (⟨S1x2048x1024, .f32⟩ : BufTy).Contents (Elt F) → (⟨S1x2048x1024, .f32⟩ : BufTy).Contents (Elt F)),
    binary main_v57 main_v69 main_v70 (addf : (⟨S1x2048x1024, .f32⟩ : BufTy).Contents (Elt F) → (⟨S1x2048x1024, .f32⟩ : BufTy).Contents (Elt F) → (⟨S1x2048x1024, .f32⟩ : BufTy).Contents (Elt F)),
    nullary main_cst_7 (constant S_ .f32 0x00000000#32),
    binary main_v70 main_cst_7 main_v71 ((fun x v => Host.reduceAdd x v reducesTo_S1x2048x1024_S1x2048_d2 h_S_) : (⟨S1x2048x1024, .f32⟩ : BufTy).Contents (Elt F) → (⟨S_, .f32⟩ : BufTy).Contents (Elt F) → (⟨S1x2048, .f32⟩ : BufTy).Contents (Elt F)),
    unary main_v71 main_v72 (broadcastInDim S1x2048x1 ![0, 1] bcast_S1x2048_S1x2048x1_0_1 : (⟨S1x2048, .f32⟩ : BufTy).Contents (Elt F) → (⟨S1x2048x1, .f32⟩ : BufTy).Contents (Elt F)),
    nullary main_cst_8 (constant S_ .f32 0x44800000#32),
    unary main_cst_8 main_v73 (broadcastInDim S1x2048x1 ![] bcast_S_S1x2048x1 : (⟨S_, .f32⟩ : BufTy).Contents (Elt F) → (⟨S1x2048x1, .f32⟩ : BufTy).Contents (Elt F)),
    binary main_v72 main_v73 main_v74 (Host.divf : (⟨S1x2048x1, .f32⟩ : BufTy).Contents (Elt F) → (⟨S1x2048x1, .f32⟩ : BufTy).Contents (Elt F) → (⟨S1x2048x1, .f32⟩ : BufTy).Contents (Elt F)),
    nullary main_c_9 (constantI S_ 32 0#32) ]

/-- Both pieces of those beside the kernel's `hostOps1_2`. -/
abbrev ops1_2 : List (HloOp τ sig (Elt F)) :=
  ops1_2_part0 ++ ops1_2_part1

/-- Operations of @main: those beside the kernel's `hostOps1_3`. -/
abbrev ops1_3 : List (HloOp τ sig (Elt F)) :=
  varOps (.of main_v70) (.of main_c_9) main_call1

/-- Operations of @main: those beside the kernel's `hostOps1_4`. -/
abbrev ops1_4 : List (HloOp τ sig (Elt F)) :=
  [ unary main_v74 main_v76 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_v70 main_v76 main_v77 (subf : (⟨S1x2048x1024, .f32⟩ : BufTy).Contents (Elt F) → (⟨S1x2048x1024, .f32⟩ : BufTy).Contents (Elt F) → (⟨S1x2048x1024, .f32⟩ : BufTy).Contents (Elt F)),
    nullary main_cst_10 (constant S_ .f32 0x3727C5AC#32),
    unary main_cst_10 main_v78 (broadcastInDim S1x2048x1 ![] bcast_S_S1x2048x1 : (⟨S_, .f32⟩ : BufTy).Contents (Elt F) → (⟨S1x2048x1, .f32⟩ : BufTy).Contents (Elt F)),
    binary main_v75 main_v78 main_v79 (addf : (⟨S1x2048x1, .f32⟩ : BufTy).Contents (Elt F) → (⟨S1x2048x1, .f32⟩ : BufTy).Contents (Elt F) → (⟨S1x2048x1, .f32⟩ : BufTy).Contents (Elt F)),
    unary main_v79 main_v80 (Host.sqrt : (⟨S1x2048x1, .f32⟩ : BufTy).Contents (Elt F) → (⟨S1x2048x1, .f32⟩ : BufTy).Contents (Elt F)),
    unary main_v80 main_v81 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_v77 main_v81 main_v82 (Host.divf : (⟨S1x2048x1024, .f32⟩ : BufTy).Contents (Elt F) → (⟨S1x2048x1024, .f32⟩ : BufTy).Contents (Elt F) → (⟨S1x2048x1024, .f32⟩ : BufTy).Contents (Elt F)),
    unary main_arg11 main_v83 (broadcastInDim S1x1x1024 ![2] bcast_S1024_S1x1x1024_2 : (⟨S1024, .f32⟩ : BufTy).Contents (Elt F) → (⟨S1x1x1024, .f32⟩ : BufTy).Contents (Elt F)),
    unary main_v83 main_v84 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v82 main_v84 main_v85 (mulf : (⟨S1x2048x1024, .f32⟩ : BufTy).Contents (Elt F) → (⟨S1x2048x1024, .f32⟩ : BufTy).Contents (Elt F) → (⟨S1x2048x1024, .f32⟩ : BufTy).Contents (Elt F)),
    unary main_arg12 main_v86 (broadcastInDim S1x1x1024 ![2] bcast_S1024_S1x1x1024_2 : (⟨S1024, .f32⟩ : BufTy).Contents (Elt F) → (⟨S1x1x1024, .f32⟩ : BufTy).Contents (Elt F)),
    unary main_v86 main_v87 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v85 main_v87 main_v88 (addf : (⟨S1x2048x1024, .f32⟩ : BufTy).Contents (Elt F) → (⟨S1x2048x1024, .f32⟩ : BufTy).Contents (Elt F) → (⟨S1x2048x1024, .f32⟩ : BufTy).Contents (Elt F)),
    unary main_arg13 main_v89 ((transpose S1024x3072 [1, 0] · transposes_S3072x1024_S1024x3072_1_0) : (⟨S3072x1024, .f32⟩ : BufTy).Contents (Elt F) → (⟨S1024x3072, .f32⟩ : BufTy).Contents (Elt F)),
    binary main_v88 main_v89 main_v90 ((fun l r => Host.dotGeneral dot_S1x2048x1024_S1024x3072_S1x2048x3072_2_0_01_1_n_n none l r) : (⟨S1x2048x1024, .f32⟩ : BufTy).Contents (Elt F) → (⟨S1024x3072, .f32⟩ : BufTy).Contents (Elt F) → (⟨S1x2048x3072, .f32⟩ : BufTy).Contents (Elt F)),
    unary main_arg14 main_v91 (broadcastInDim S1x1x3072 ![2] bcast_S3072_S1x1x3072_2 : (⟨S3072, .f32⟩ : BufTy).Contents (Elt F) → (⟨S1x1x3072, .f32⟩ : BufTy).Contents (Elt F)),
    unary main_v91 main_v92 (broadcastInDim S1x2048x3072 ![0, 1, 2] bcast_S1x1x3072_S1x2048x3072_0_1_2 : (⟨S1x1x3072, .f32⟩ : BufTy).Contents (Elt F) → (⟨S1x2048x3072, .f32⟩ : BufTy).Contents (Elt F)),
    binary main_v90 main_v92 main_v93 (addf : (⟨S1x2048x3072, .f32⟩ : BufTy).Contents (Elt F) → (⟨S1x2048x3072, .f32⟩ : BufTy).Contents (Elt F) → (⟨S1x2048x3072, .f32⟩ : BufTy).Contents (Elt F)),
    unary main_v93 main_v94 ((extractStridedSlice S1x2048x1024 ![0, 0, 0] · slices_S1x2048x3072_S1x2048x1024_0_0_0) : (⟨S1x2048x3072, .f32⟩ : BufTy).Contents (Elt F) → (⟨S1x2048x1024, .f32⟩ : BufTy).Contents (Elt F)),
    unary main_v93 main_v95 ((extractStridedSlice S1x2048x1024 ![0, 0, 1024] · slices_S1x2048x3072_S1x2048x1024_0_0_1024) : (⟨S1x2048x3072, .f32⟩ : BufTy).Contents (Elt F) → (⟨S1x2048x1024, .f32⟩ : BufTy).Contents (Elt F)),
    unary main_v93 main_v96 ((extractStridedSlice S1x2048x1024 ![0, 0, 2048] · slices_S1x2048x3072_S1x2048x1024_0_0_2048) : (⟨S1x2048x3072, .f32⟩ : BufTy).Contents (Elt F) → (⟨S1x2048x1024, .f32⟩ : BufTy).Contents (Elt F)),
    reshape main_v94 main_v97 (rfl : (.f32 : EltTy) = .f32) shapeCasts_S1x2048x1024_S1x2048x16x64,
    unary main_v97 main_v98 ((transpose S1x16x2048x64 [0, 2, 1, 3] · transposes_S1x2048x16x64_S1x16x2048x64_0_2_1_3) : (⟨S1x2048x16x64, .f32⟩ : BufTy).Contents (Elt F) → (⟨S1x16x2048x64, .f32⟩ : BufTy).Contents (Elt F)),
    reshape main_v95 main_v99 (rfl : (.f32 : EltTy) = .f32) shapeCasts_S1x2048x1024_S1x2048x16x64,
    unary main_v99 main_v100 ((transpose S1x16x2048x64 [0, 2, 1, 3] · transposes_S1x2048x16x64_S1x16x2048x64_0_2_1_3) : (⟨S1x2048x16x64, .f32⟩ : BufTy).Contents (Elt F) → (⟨S1x16x2048x64, .f32⟩ : BufTy).Contents (Elt F)),
    reshape main_v96 main_v101 (rfl : (.f32 : EltTy) = .f32) shapeCasts_S1x2048x1024_S1x2048x16x64,
    unary main_v101 main_v102 ((transpose S1x16x2048x64 [0, 2, 1, 3] · transposes_S1x2048x16x64_S1x16x2048x64_0_2_1_3) : (⟨S1x2048x16x64, .f32⟩ : BufTy).Contents (Elt F) → (⟨S1x16x2048x64, .f32⟩ : BufTy).Contents (Elt F)) ]

/-- Operations of @main: layer 1's scores. -/
abbrev opsS1 : List (HloOp τ sig (Elt F)) :=
  [ binary main_v98 main_v100 main_v103 ((fun l r => Host.dotGeneral dot_S1x16x2048x64_S1x16x2048x64_S1x16x2048x2048_3_3_2_2_01_01 none l r) : (⟨S1x16x2048x64, .f32⟩ : BufTy).Contents (Elt F) → (⟨S1x16x2048x64, .f32⟩ : BufTy).Contents (Elt F) → (⟨S1x16x2048x2048, .f32⟩ : BufTy).Contents (Elt F)),
    nullary main_cst_11 (constant S_ .f32 0x41000000#32),
    unary main_cst_11 main_v104 (broadcastInDim S1x16x2048x2048 ![] bcast_S_S1x16x2048x2048 : (⟨S_, .f32⟩ : BufTy).Contents (Elt F) → (⟨S1x16x2048x2048, .f32⟩ : BufTy).Contents (Elt F)),
    binary main_v103 main_v104 main_v105 (Host.divf : (⟨S1x16x2048x2048, .f32⟩ : BufTy).Contents (Elt F) → (⟨S1x16x2048x2048, .f32⟩ : BufTy).Contents (Elt F) → (⟨S1x16x2048x2048, .f32⟩ : BufTy).Contents (Elt F)) ]

/-- Operations of @main: those beside the kernel's `hostOps2`. -/
abbrev ops2 : List (HloOp τ sig (Elt F)) :=
  [ nullary main_cst_12 (constant S_ .f32 0xFF800000#32),
    binary main_v105 main_cst_12 main_v106 ((fun x v => Host.reduce FloatOps.maximumf x v reducesTo_S1x16x2048x2048_S1x16x2048_d3 h_S_) : (⟨S1x16x2048x2048, .f32⟩ : BufTy).Contents (Elt F) → (⟨S_, .f32⟩ : BufTy).Contents (Elt F) → (⟨S1x16x2048, .f32⟩ : BufTy).Contents (Elt F)),
    nullary main_cst_13 (constant S_ .f32 0xFF800000#32),
    unary main_cst_13 main_v107 (broadcastInDim S1x16x2048 ![] bcast_S_S1x16x2048 : (⟨S_, .f32⟩ : BufTy).Contents (Elt F) → (⟨S1x16x2048, .f32⟩ : BufTy).Contents (Elt F)),
    binary main_v107 main_v106 main_v108 (maximumf : (⟨S1x16x2048, .f32⟩ : BufTy).Contents (Elt F) → (⟨S1x16x2048, .f32⟩ : BufTy).Contents (Elt F) → (⟨S1x16x2048, .f32⟩ : BufTy).Contents (Elt F)),
    unary main_v108 main_v109 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    unary main_v109 main_v110 (broadcastInDim S1x16x2048x2048 ![0, 1, 2, 3] bcast_S1x16x2048x1_S1x16x2048x2048_0_1_2_3 : (⟨S1x16x2048x1, .f32⟩ : BufTy).Contents (Elt F) → (⟨S1x16x2048x2048, .f32⟩ : BufTy).Contents (Elt F)),
    binary main_v105 main_v110 main_v111 (subf : (⟨S1x16x2048x2048, .f32⟩ : BufTy).Contents (Elt F) → (⟨S1x16x2048x2048, .f32⟩ : BufTy).Contents (Elt F) → (⟨S1x16x2048x2048, .f32⟩ : BufTy).Contents (Elt F)),
    unary main_v111 main_v112 (Host.exp : (⟨S1x16x2048x2048, .f32⟩ : BufTy).Contents (Elt F) → (⟨S1x16x2048x2048, .f32⟩ : BufTy).Contents (Elt F)),
    nullary main_cst_14 (constant S_ .f32 0x00000000#32),
    binary main_v112 main_cst_14 main_v113 ((fun x v => Host.reduceAdd x v reducesTo_S1x16x2048x2048_S1x16x2048_d3 h_S_) : (⟨S1x16x2048x2048, .f32⟩ : BufTy).Contents (Elt F) → (⟨S_, .f32⟩ : BufTy).Contents (Elt F) → (⟨S1x16x2048, .f32⟩ : BufTy).Contents (Elt F)),
    unary main_v113 main_v114 (broadcastInDim S1x16x2048x1 ![0, 1, 2] bcast_S1x16x2048_S1x16x2048x1_0_1_2 : (⟨S1x16x2048, .f32⟩ : BufTy).Contents (Elt F) → (⟨S1x16x2048x1, .f32⟩ : BufTy).Contents (Elt F)),
    unary main_v114 main_v115 (broadcastInDim S1x16x2048x2048 ![0, 1, 2, 3] bcast_S1x16x2048x1_S1x16x2048x2048_0_1_2_3 : (⟨S1x16x2048x1, .f32⟩ : BufTy).Contents (Elt F) → (⟨S1x16x2048x2048, .f32⟩ : BufTy).Contents (Elt F)),
    binary main_v112 main_v115 main_v116 (Host.divf : (⟨S1x16x2048x2048, .f32⟩ : BufTy).Contents (Elt F) → (⟨S1x16x2048x2048, .f32⟩ : BufTy).Contents (Elt F) → (⟨S1x16x2048x2048, .f32⟩ : BufTy).Contents (Elt F)),
    reshape main_v116 main_v117 (rfl : (.f32 : EltTy) = .f32) shapeCasts_S1x16x2048x2048_S16x2048x2048,
    reshape main_v102 main_v118 (rfl : (.f32 : EltTy) = .f32) shapeCasts_S1x16x2048x64_S16x2048x64,
    binary main_v117 main_v118 main_v119 ((fun l r => Host.dotGeneral dot_S16x2048x2048_S16x2048x64_S16x2048x64_2_1_1_2_0_0 none l r) : (⟨S16x2048x2048, .f32⟩ : BufTy).Contents (Elt F) → (⟨S16x2048x64, .f32⟩ : BufTy).Contents (Elt F) → (⟨S16x2048x64, .f32⟩ : BufTy).Contents (Elt F)),
    unary main_v119 main_v120 (broadcastInDim S1x16x2048x64 ![1, 2, 3] bcast_S16x2048x64_S1x16x2048x64_1_2_3 : (⟨S16x2048x64, .f32⟩ : BufTy).Contents (Elt F) → (⟨S1x16x2048x64, .f32⟩ : BufTy).Contents (Elt F)),
    unary main_v120 main_v121 ((transpose S1x2048x16x64 [0, 2, 1, 3] · transposes_S1x16x2048x64_S1x2048x16x64_0_2_1_3) : (⟨S1x16x2048x64, .f32⟩ : BufTy).Contents (Elt F) → (⟨S1x2048x16x64, .f32⟩ : BufTy).Contents (Elt F)),
    reshape main_v121 main_v122 (rfl : (.f32 : EltTy) = .f32) shapeCasts_S1x2048x16x64_S1x2048x1024,
    unary main_arg15 main_v123 ((transpose S1024x1024 [1, 0] · transposes_S1024x1024_S1024x1024_1_0) : (⟨S1024x1024, .f32⟩ : BufTy).Contents (Elt F) → (⟨S1024x1024, .f32⟩ : BufTy).Contents (Elt F)),
    binary main_v122 main_v123 main_v124 ((fun l r => Host.dotGeneral dot_S1x2048x1024_S1024x1024_S1x2048x1024_2_0_01_1_n_n none l r) : (⟨S1x2048x1024, .f32⟩ : BufTy).Contents (Elt F) → (⟨S1024x1024, .f32⟩ : BufTy).Contents (Elt F) → (⟨S1x2048x1024, .f32⟩ : BufTy).Contents (Elt F)),
    unary main_arg16 main_v125 (broadcastInDim S1x1x1024 ![2] bcast_S1024_S1x1x1024_2 : (⟨S1024, .f32⟩ : BufTy).Contents (Elt F) → (⟨S1x1x1024, .f32⟩ : BufTy).Contents (Elt F)),
    unary main_v125 main_v126 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v124 main_v126 main_v127 (addf : (⟨S1x2048x1024, .f32⟩ : BufTy).Contents (Elt F) → (⟨S1x2048x1024, .f32⟩ : BufTy).Contents (Elt F) → (⟨S1x2048x1024, .f32⟩ : BufTy).Contents (Elt F)),
    binary main_v88 main_v127 main_v128 (addf : (⟨S1x2048x1024, .f32⟩ : BufTy).Contents (Elt F) → (⟨S1x2048x1024, .f32⟩ : BufTy).Contents (Elt F) → (⟨S1x2048x1024, .f32⟩ : BufTy).Contents (Elt F)),
    nullary main_cst_15 (constant S_ .f32 0x00000000#32),
    binary main_v128 main_cst_15 main_v129 ((fun x v => Host.reduceAdd x v reducesTo_S1x2048x1024_S1x2048_d2 h_S_) : (⟨S1x2048x1024, .f32⟩ : BufTy).Contents (Elt F) → (⟨S_, .f32⟩ : BufTy).Contents (Elt F) → (⟨S1x2048, .f32⟩ : BufTy).Contents (Elt F)),
    unary main_v129 main_v130 (broadcastInDim S1x2048x1 ![0, 1] bcast_S1x2048_S1x2048x1_0_1 : (⟨S1x2048, .f32⟩ : BufTy).Contents (Elt F) → (⟨S1x2048x1, .f32⟩ : BufTy).Contents (Elt F)),
    nullary main_cst_16 (constant S_ .f32 0x44800000#32),
    unary main_cst_16 main_v131 (broadcastInDim S1x2048x1 ![] bcast_S_S1x2048x1 : (⟨S_, .f32⟩ : BufTy).Contents (Elt F) → (⟨S1x2048x1, .f32⟩ : BufTy).Contents (Elt F)),
    binary main_v130 main_v131 main_v132 (Host.divf : (⟨S1x2048x1, .f32⟩ : BufTy).Contents (Elt F) → (⟨S1x2048x1, .f32⟩ : BufTy).Contents (Elt F) → (⟨S1x2048x1, .f32⟩ : BufTy).Contents (Elt F)),
    nullary main_c_17 (constantI S_ 32 0#32) ]

/-- Operations of @main: those beside the kernel's `hostOps2_1`. -/
abbrev ops2_1 : List (HloOp τ sig (Elt F)) :=
  varOps (.of main_v128) (.of main_c_17) main_call2

/-- Operations of @main: those beside the kernel's `hostOps2_2`, as far as they lie in `main_part2`. -/
abbrev ops2_2_part2 : List (HloOp τ sig (Elt F)) :=
  [ unary main_v132 main_v134 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_v128 main_v134 main_v135 (subf : (⟨S1x2048x1024, .f32⟩ : BufTy).Contents (Elt F) → (⟨S1x2048x1024, .f32⟩ : BufTy).Contents (Elt F) → (⟨S1x2048x1024, .f32⟩ : BufTy).Contents (Elt F)),
    nullary main_cst_18 (constant S_ .f32 0x3727C5AC#32),
    unary main_cst_18 main_v136 (broadcastInDim S1x2048x1 ![] bcast_S_S1x2048x1 : (⟨S_, .f32⟩ : BufTy).Contents (Elt F) → (⟨S1x2048x1, .f32⟩ : BufTy).Contents (Elt F)),
    binary main_v133 main_v136 main_v137 (addf : (⟨S1x2048x1, .f32⟩ : BufTy).Contents (Elt F) → (⟨S1x2048x1, .f32⟩ : BufTy).Contents (Elt F) → (⟨S1x2048x1, .f32⟩ : BufTy).Contents (Elt F)),
    unary main_v137 main_v138 (Host.sqrt : (⟨S1x2048x1, .f32⟩ : BufTy).Contents (Elt F) → (⟨S1x2048x1, .f32⟩ : BufTy).Contents (Elt F)),
    unary main_v138 main_v139 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_v135 main_v139 main_v140 (Host.divf : (⟨S1x2048x1024, .f32⟩ : BufTy).Contents (Elt F) → (⟨S1x2048x1024, .f32⟩ : BufTy).Contents (Elt F) → (⟨S1x2048x1024, .f32⟩ : BufTy).Contents (Elt F)),
    unary main_arg20 main_v141 (broadcastInDim S1x1x1024 ![2] bcast_S1024_S1x1x1024_2 : (⟨S1024, .f32⟩ : BufTy).Contents (Elt F) → (⟨S1x1x1024, .f32⟩ : BufTy).Contents (Elt F)),
    unary main_v141 main_v142 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v140 main_v142 main_v143 (mulf : (⟨S1x2048x1024, .f32⟩ : BufTy).Contents (Elt F) → (⟨S1x2048x1024, .f32⟩ : BufTy).Contents (Elt F) → (⟨S1x2048x1024, .f32⟩ : BufTy).Contents (Elt F)),
    unary main_arg21 main_v144 (broadcastInDim S1x1x1024 ![2] bcast_S1024_S1x1x1024_2 : (⟨S1024, .f32⟩ : BufTy).Contents (Elt F) → (⟨S1x1x1024, .f32⟩ : BufTy).Contents (Elt F)),
    unary main_v144 main_v145 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v143 main_v145 main_v146 (addf : (⟨S1x2048x1024, .f32⟩ : BufTy).Contents (Elt F) → (⟨S1x2048x1024, .f32⟩ : BufTy).Contents (Elt F) → (⟨S1x2048x1024, .f32⟩ : BufTy).Contents (Elt F)),
    binary main_v146 main_arg17 main_v147 ((fun l r => Host.dotGeneral dot_S1x2048x1024_S1024x8_S1x2048x8_2_0_01_1_n_n none l r) : (⟨S1x2048x1024, .f32⟩ : BufTy).Contents (Elt F) → (⟨S1024x8, .f32⟩ : BufTy).Contents (Elt F) → (⟨S1x2048x8, .f32⟩ : BufTy).Contents (Elt F)),
    nullary main_cst_19 (constant S_ .f32 0xFF800000#32),
    binary main_v147 main_cst_19 main_v148 ((fun x v => Host.reduce FloatOps.maximumf x v reducesTo_S1x2048x8_S1x2048_d2 h_S_) : (⟨S1x2048x8, .f32⟩ : BufTy).Contents (Elt F) → (⟨S_, .f32⟩ : BufTy).Contents (Elt F) → (⟨S1x2048, .f32⟩ : BufTy).Contents (Elt F)),
    nullary main_cst_20 (constant S_ .f32 0xFF800000#32),
    unary main_cst_20 main_v149 (broadcastInDim S1x2048 ![] bcast_S_S1x2048 : (⟨S_, .f32⟩ : BufTy).Contents (Elt F) → (⟨S1x2048, .f32⟩ : BufTy).Contents (Elt F)),
    binary main_v149 main_v148 main_v150 (maximumf : (⟨S1x2048, .f32⟩ : BufTy).Contents (Elt F) → (⟨S1x2048, .f32⟩ : BufTy).Contents (Elt F) → (⟨S1x2048, .f32⟩ : BufTy).Contents (Elt F)),
    unary main_v150 main_v151 (broadcastInDim S1x2048x1 ![0, 1] bcast_S1x2048_S1x2048x1_0_1 : (⟨S1x2048, .f32⟩ : BufTy).Contents (Elt F) → (⟨S1x2048x1, .f32⟩ : BufTy).Contents (Elt F)),
    unary main_v151 main_v152 (broadcastInDim S1x2048x8 ![0, 1, 2] bcast_S1x2048x1_S1x2048x8_0_1_2 : (⟨S1x2048x1, .f32⟩ : BufTy).Contents (Elt F) → (⟨S1x2048x8, .f32⟩ : BufTy).Contents (Elt F)),
    binary main_v147 main_v152 main_v153 (subf : (⟨S1x2048x8, .f32⟩ : BufTy).Contents (Elt F) → (⟨S1x2048x8, .f32⟩ : BufTy).Contents (Elt F) → (⟨S1x2048x8, .f32⟩ : BufTy).Contents (Elt F)),
    unary main_v153 main_v154 (Host.exp : (⟨S1x2048x8, .f32⟩ : BufTy).Contents (Elt F) → (⟨S1x2048x8, .f32⟩ : BufTy).Contents (Elt F)),
    nullary main_cst_21 (constant S_ .f32 0x00000000#32),
    binary main_v154 main_cst_21 main_v155 ((fun x v => Host.reduceAdd x v reducesTo_S1x2048x8_S1x2048_d2 h_S_) : (⟨S1x2048x8, .f32⟩ : BufTy).Contents (Elt F) → (⟨S_, .f32⟩ : BufTy).Contents (Elt F) → (⟨S1x2048, .f32⟩ : BufTy).Contents (Elt F)) ]

/-- Operations of @main: those beside the kernel's `hostOps2_2`, as far as they lie in `main_part3`. -/
abbrev ops2_2_part3 : List (HloOp τ sig (Elt F)) :=
  [ unary main_v155 main_v156 (broadcastInDim S1x2048x1 ![0, 1] bcast_S1x2048_S1x2048x1_0_1 : (⟨S1x2048, .f32⟩ : BufTy).Contents (Elt F) → (⟨S1x2048x1, .f32⟩ : BufTy).Contents (Elt F)),
    unary main_v156 main_v157 (broadcastInDim S1x2048x8 ![0, 1, 2] bcast_S1x2048x1_S1x2048x8_0_1_2 : (⟨S1x2048x1, .f32⟩ : BufTy).Contents (Elt F) → (⟨S1x2048x8, .f32⟩ : BufTy).Contents (Elt F)),
    binary main_v154 main_v157 main_v158 (Host.divf : (⟨S1x2048x8, .f32⟩ : BufTy).Contents (Elt F) → (⟨S1x2048x8, .f32⟩ : BufTy).Contents (Elt F) → (⟨S1x2048x8, .f32⟩ : BufTy).Contents (Elt F)),
    nullary main_cst_22 (constant S_ .f32 0xFF800000#32),
    binary main_v158 main_cst_22 main_v159 ((fun x v => Host.reduce FloatOps.maximumf x v reducesTo_S1x2048x8_S1x2048_d2 h_S_) : (⟨S1x2048x8, .f32⟩ : BufTy).Contents (Elt F) → (⟨S_, .f32⟩ : BufTy).Contents (Elt F) → (⟨S1x2048, .f32⟩ : BufTy).Contents (Elt F)) ]

/-- Both pieces of those beside the kernel's `hostOps2_2`. -/
abbrev ops2_2 : List (HloOp τ sig (Elt F)) :=
  ops2_2_part2 ++ ops2_2_part3

/-- Operations of @main: those beside the kernel's `hostOps2_3`. -/
abbrev ops2_3 : List (HloOp τ sig (Elt F)) :=
  argmaxOps (.of main_v158) main_call3

/-- Operations of @main: those beside the kernel's `hostOps2_4`. -/
abbrev ops2_4 : List (HloOp τ sig (Elt F)) :=
  oneHotOps (.of main_v160) main_call4

/-- Operations of @main: those beside the kernel's `hostOps2_5`. -/
abbrev ops2_5 : List (HloOp τ sig (Elt F)) :=
  cumsumOps (.of main_v161) main_call5

/-- Operations of @main: those beside the kernel's `hostOps2_6`. -/
abbrev ops2_6 : List (HloOp τ sig (Elt F)) :=
  [ binary main_v162 main_v161 main_v163 (muli : (⟨S1x2048x8, .i32⟩ : BufTy).Contents (Elt F) → (⟨S1x2048x8, .i32⟩ : BufTy).Contents (Elt F) → (⟨S1x2048x8, .i32⟩ : BufTy).Contents (Elt F)),
    nullary main_c_23 (constantI S_ 32 512#32),
    unary main_c_23 main_v164 (broadcastInDim S1x2048x8 ![] bcast_S_S1x2048x8 : (⟨S_, .i32⟩ : BufTy).Contents (Elt F) → (⟨S1x2048x8, .i32⟩ : BufTy).Contents (Elt F)),
    binary main_v163 main_v164 main_v165 (cmpi .slt : (⟨S1x2048x8, .i32⟩ : BufTy).Contents (Elt F) → (⟨S1x2048x8, .i32⟩ : BufTy).Contents (Elt F) → (⟨S1x2048x8, .i1⟩ : BufTy).Contents (Elt F)),
    unary main_v165 main_v166 ((extui 32 · natLt_1_32) : (⟨S1x2048x8, .i1⟩ : BufTy).Contents (Elt F) → (⟨S1x2048x8, .i32⟩ : BufTy).Contents (Elt F)),
    binary main_v161 main_v166 main_v167 (muli : (⟨S1x2048x8, .i32⟩ : BufTy).Contents (Elt F) → (⟨S1x2048x8, .i32⟩ : BufTy).Contents (Elt F) → (⟨S1x2048x8, .i32⟩ : BufTy).Contents (Elt F)),
    binary main_v163 main_v166 main_v168 (muli : (⟨S1x2048x8, .i32⟩ : BufTy).Contents (Elt F) → (⟨S1x2048x8, .i32⟩ : BufTy).Contents (Elt F) → (⟨S1x2048x8, .i32⟩ : BufTy).Contents (Elt F)),
    nullary main_c_24 (constantI S_ 32 0#32),
    binary main_v167 main_c_24 main_v169 ((fun x v => Host.reduce IntOp.addi x v reducesTo_S1x2048x8_S1x2048_d2 h_S_) : (⟨S1x2048x8, .i32⟩ : BufTy).Contents (Elt F) → (⟨S_, .i32⟩ : BufTy).Contents (Elt F) → (⟨S1x2048, .i32⟩ : BufTy).Contents (Elt F)),
    unary main_v169 main_v170 (sitofp .f32 : (⟨S1x2048, .i32⟩ : BufTy).Contents (Elt F) → (⟨S1x2048, .f32⟩ : BufTy).Contents (Elt F)),
    nullary main_c_25 (constantI S_ 32 0#32),
    binary main_v168 main_c_25 main_v171 ((fun x v => Host.reduce IntOp.addi x v reducesTo_S1x2048x8_S1x2048_d2 h_S_) : (⟨S1x2048x8, .i32⟩ : BufTy).Contents (Elt F) → (⟨S_, .i32⟩ : BufTy).Contents (Elt F) → (⟨S1x2048, .i32⟩ : BufTy).Contents (Elt F)),
    nullary main_c_26 (constantI S_ 32 512#32),
    unary main_c_26 main_v172 (broadcastInDim S1x2048 ![] bcast_S_S1x2048 : (⟨S_, .i32⟩ : BufTy).Contents (Elt F) → (⟨S1x2048, .i32⟩ : BufTy).Contents (Elt F)),
    binary main_v160 main_v172 main_v173 (muli : (⟨S1x2048, .i32⟩ : BufTy).Contents (Elt F) → (⟨S1x2048, .i32⟩ : BufTy).Contents (Elt F) → (⟨S1x2048, .i32⟩ : BufTy).Contents (Elt F)),
    binary main_v173 main_v171 main_v174 (addi : (⟨S1x2048, .i32⟩ : BufTy).Contents (Elt F) → (⟨S1x2048, .i32⟩ : BufTy).Contents (Elt F) → (⟨S1x2048, .i32⟩ : BufTy).Contents (Elt F)),
    reshape main_v174 main_v175 (rfl : (.i32 : EltTy) = .i32) shapeCasts_S1x2048_S2048x1 ]

/-- Operations of @main: those beside the kernel's `hostOps2_7`. -/
abbrev ops2_7 : List (HloOp τ sig (Elt F)) :=
  oneHot1Ops (.of main_v160) main_call6

/-- Operations of @main: those beside the kernel's `hostOps2_8`. -/
abbrev ops2_8 : List (HloOp τ sig (Elt F)) :=
  oneHot2Ops (.of main_v168) main_call7

/-- Operations of @main: those beside the kernel's `hostOps2_9`. -/
abbrev ops2_9 : List (HloOp τ sig (Elt F)) :=
  [ binary main_v159 main_v170 main_v178 (mulf : (⟨S1x2048, .f32⟩ : BufTy).Contents (Elt F) → (⟨S1x2048, .f32⟩ : BufTy).Contents (Elt F) → (⟨S1x2048, .f32⟩ : BufTy).Contents (Elt F)),
    unary main_v178 main_v179 (broadcastInDim S1x2048x1x1 ![0, 1] bcast_S1x2048_S1x2048x1x1_0_1 : (⟨S1x2048, .f32⟩ : BufTy).Contents (Elt F) → (⟨S1x2048x1x1, .f32⟩ : BufTy).Contents (Elt F)),
    unary main_v176 main_v180 (broadcastInDim S1x2048x8x1 ![0, 1, 2] bcast_S1x2048x8_S1x2048x8x1_0_1_2 : (⟨S1x2048x8, .f32⟩ : BufTy).Contents (Elt F) → (⟨S1x2048x8x1, .f32⟩ : BufTy).Contents (Elt F)),
    unary main_v179 main_v181 (broadcastInDim S1x2048x8x1 ![0, 1, 2, 3] bcast_S1x2048x1x1_S1x2048x8x1_0_1_2_3 : (⟨S1x2048x1x1, .f32⟩ : BufTy).Contents (Elt F) → (⟨S1x2048x8x1, .f32⟩ : BufTy).Contents (Elt F)),
    binary main_v181 main_v180 main_v182 (mulf : (⟨S1x2048x8x1, .f32⟩ : BufTy).Contents (Elt F) → (⟨S1x2048x8x1, .f32⟩ : BufTy).Contents (Elt F) → (⟨S1x2048x8x1, .f32⟩ : BufTy).Contents (Elt F)),
    unary main_v182 main_v183 (broadcastInDim S1x2048x8x512 ![0, 1, 2, 3] bcast_S1x2048x8x1_S1x2048x8x512_0_1_2_3 : (⟨S1x2048x8x1, .f32⟩ : BufTy).Contents (Elt F) → (⟨S1x2048x8x512, .f32⟩ : BufTy).Contents (Elt F)),
    binary main_v183 main_v177 main_v184 (mulf : (⟨S1x2048x8x512, .f32⟩ : BufTy).Contents (Elt F) → (⟨S1x2048x8x512, .f32⟩ : BufTy).Contents (Elt F) → (⟨S1x2048x8x512, .f32⟩ : BufTy).Contents (Elt F)),
    nullary main_cst_27 (constant S_ .f32 0x00000000#32),
    unary main_cst_27 main_v185 (broadcastInDim S1x2048x8x512 ![] bcast_S_S1x2048x8x512 : (⟨S_, .f32⟩ : BufTy).Contents (Elt F) → (⟨S1x2048x8x512, .f32⟩ : BufTy).Contents (Elt F)),
    binary main_v184 main_v185 main_v186 (cmpf .ogt : (⟨S1x2048x8x512, .f32⟩ : BufTy).Contents (Elt F) → (⟨S1x2048x8x512, .f32⟩ : BufTy).Contents (Elt F) → (⟨S1x2048x8x512, .i1⟩ : BufTy).Contents (Elt F)),
    unary main_v186 main_v187 (uitofp .f32 : (⟨S1x2048x8x512, .i1⟩ : BufTy).Contents (Elt F) → (⟨S1x2048x8x512, .f32⟩ : BufTy).Contents (Elt F)),
    binary main_v187 main_v146 main_v188 ((fun l r => Host.dotGeneral dot_S1x2048x8x512_S1x2048x1024_S1x8x512x1024_1_1_23_2_0_0 none l r) : (⟨S1x2048x8x512, .f32⟩ : BufTy).Contents (Elt F) → (⟨S1x2048x1024, .f32⟩ : BufTy).Contents (Elt F) → (⟨S1x8x512x1024, .f32⟩ : BufTy).Contents (Elt F)),
    binary main_v188 main_arg18 main_v189 ((fun l r => Host.dotGeneral dot_S1x8x512x1024_S8x1024x4096_S8x1x512x4096_3_1_02_2_1_0 none l r) : (⟨S1x8x512x1024, .f32⟩ : BufTy).Contents (Elt F) → (⟨S8x1024x4096, .f32⟩ : BufTy).Contents (Elt F) → (⟨S8x1x512x4096, .f32⟩ : BufTy).Contents (Elt F)),
    unary main_v189 main_v190 ((transpose S1x8x512x4096 [1, 0, 2, 3] · transposes_S8x1x512x4096_S1x8x512x4096_1_0_2_3) : (⟨S8x1x512x4096, .f32⟩ : BufTy).Contents (Elt F) → (⟨S1x8x512x4096, .f32⟩ : BufTy).Contents (Elt F)),
    nullary main_cst_28 (constant S_ .f32 0x00000000#32),
    unary main_cst_28 main_v191 (broadcastInDim S1x8x512x4096 ![] bcast_S_S1x8x512x4096 : (⟨S_, .f32⟩ : BufTy).Contents (Elt F) → (⟨S1x8x512x4096, .f32⟩ : BufTy).Contents (Elt F)),
    binary main_v190 main_v191 main_v192 (maximumf : (⟨S1x8x512x4096, .f32⟩ : BufTy).Contents (Elt F) → (⟨S1x8x512x4096, .f32⟩ : BufTy).Contents (Elt F) → (⟨S1x8x512x4096, .f32⟩ : BufTy).Contents (Elt F)),
    binary main_v192 main_arg19 main_v193 ((fun l r => Host.dotGeneral dot_S1x8x512x4096_S8x4096x1024_S8x1x512x1024_3_1_02_2_1_0 none l r) : (⟨S1x8x512x4096, .f32⟩ : BufTy).Contents (Elt F) → (⟨S8x4096x1024, .f32⟩ : BufTy).Contents (Elt F) → (⟨S8x1x512x1024, .f32⟩ : BufTy).Contents (Elt F)),
    unary main_v193 main_v194 ((transpose S1x8x512x1024 [1, 0, 2, 3] · transposes_S8x1x512x1024_S1x8x512x1024_1_0_2_3) : (⟨S8x1x512x1024, .f32⟩ : BufTy).Contents (Elt F) → (⟨S1x8x512x1024, .f32⟩ : BufTy).Contents (Elt F)),
    binary main_v184 main_v194 main_v195 ((fun l r => Host.dotGeneral dot_S1x2048x8x512_S1x8x512x1024_S1x2048x1024_32_21_1_3_0_0 none l r) : (⟨S1x2048x8x512, .f32⟩ : BufTy).Contents (Elt F) → (⟨S1x8x512x1024, .f32⟩ : BufTy).Contents (Elt F) → (⟨S1x2048x1024, .f32⟩ : BufTy).Contents (Elt F)),
    binary main_v146 main_v195 main_v196 (addf : (⟨S1x2048x1024, .f32⟩ : BufTy).Contents (Elt F) → (⟨S1x2048x1024, .f32⟩ : BufTy).Contents (Elt F) → (⟨S1x2048x1024, .f32⟩ : BufTy).Contents (Elt F)),
    nullary main_cst_29 (constant S_ .f32 0x00000000#32),
    binary main_v196 main_cst_29 main_v197 ((fun x v => Host.reduceAdd x v reducesTo_S1x2048x1024_S1x2048_d2 h_S_) : (⟨S1x2048x1024, .f32⟩ : BufTy).Contents (Elt F) → (⟨S_, .f32⟩ : BufTy).Contents (Elt F) → (⟨S1x2048, .f32⟩ : BufTy).Contents (Elt F)),
    unary main_v197 main_v198 (broadcastInDim S1x2048x1 ![0, 1] bcast_S1x2048_S1x2048x1_0_1 : (⟨S1x2048, .f32⟩ : BufTy).Contents (Elt F) → (⟨S1x2048x1, .f32⟩ : BufTy).Contents (Elt F)),
    nullary main_cst_30 (constant S_ .f32 0x44800000#32),
    unary main_cst_30 main_v199 (broadcastInDim S1x2048x1 ![] bcast_S_S1x2048x1 : (⟨S_, .f32⟩ : BufTy).Contents (Elt F) → (⟨S1x2048x1, .f32⟩ : BufTy).Contents (Elt F)),
    binary main_v198 main_v199 main_v200 (Host.divf : (⟨S1x2048x1, .f32⟩ : BufTy).Contents (Elt F) → (⟨S1x2048x1, .f32⟩ : BufTy).Contents (Elt F) → (⟨S1x2048x1, .f32⟩ : BufTy).Contents (Elt F)),
    nullary main_c_31 (constantI S_ 32 0#32) ]

/-- Operations of @main: those beside the kernel's `hostOps2_10`. -/
abbrev ops2_10 : List (HloOp τ sig (Elt F)) :=
  varOps (.of main_v196) (.of main_c_31) main_call8

/-- Operations of @main: those beside the kernel's `hostOps2_11`, as far as they lie in `main_part3`. -/
abbrev ops2_11_part3 : List (HloOp τ sig (Elt F)) :=
  [ unary main_v200 main_v202 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_v196 main_v202 main_v203 (subf : (⟨S1x2048x1024, .f32⟩ : BufTy).Contents (Elt F) → (⟨S1x2048x1024, .f32⟩ : BufTy).Contents (Elt F) → (⟨S1x2048x1024, .f32⟩ : BufTy).Contents (Elt F)),
    nullary main_cst_32 (constant S_ .f32 0x3727C5AC#32),
    unary main_cst_32 main_v204 (broadcastInDim S1x2048x1 ![] bcast_S_S1x2048x1 : (⟨S_, .f32⟩ : BufTy).Contents (Elt F) → (⟨S1x2048x1, .f32⟩ : BufTy).Contents (Elt F)) ]

/-- Operations of @main: those beside the kernel's `hostOps2_11`, as far as they lie in `main_part4`. -/
abbrev ops2_11_part4 : List (HloOp τ sig (Elt F)) :=
  [ binary main_v201 main_v204 main_v205 (addf : (⟨S1x2048x1, .f32⟩ : BufTy).Contents (Elt F) → (⟨S1x2048x1, .f32⟩ : BufTy).Contents (Elt F) → (⟨S1x2048x1, .f32⟩ : BufTy).Contents (Elt F)),
    unary main_v205 main_v206 (Host.sqrt : (⟨S1x2048x1, .f32⟩ : BufTy).Contents (Elt F) → (⟨S1x2048x1, .f32⟩ : BufTy).Contents (Elt F)),
    unary main_v206 main_v207 (broadcastInDim S1x2048x1024 ![0, 1, 2] bcast_S1x2048x1_S1x2048x1024_0_1_2 : (⟨S1x2048x1, .f32⟩ : BufTy).Contents (Elt F) → (⟨S1x2048x1024, .f32⟩ : BufTy).Contents (Elt F)),
    binary main_v203 main_v207 main_v208 (Host.divf : (⟨S1x2048x1024, .f32⟩ : BufTy).Contents (Elt F) → (⟨S1x2048x1024, .f32⟩ : BufTy).Contents (Elt F) → (⟨S1x2048x1024, .f32⟩ : BufTy).Contents (Elt F)),
    unary main_arg22 main_v209 (broadcastInDim S1x1x1024 ![2] bcast_S1024_S1x1x1024_2 : (⟨S1024, .f32⟩ : BufTy).Contents (Elt F) → (⟨S1x1x1024, .f32⟩ : BufTy).Contents (Elt F)),
    unary main_v209 main_v210 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v208 main_v210 main_v211 (mulf : (⟨S1x2048x1024, .f32⟩ : BufTy).Contents (Elt F) → (⟨S1x2048x1024, .f32⟩ : BufTy).Contents (Elt F) → (⟨S1x2048x1024, .f32⟩ : BufTy).Contents (Elt F)),
    unary main_arg23 main_v212 (broadcastInDim S1x1x1024 ![2] bcast_S1024_S1x1x1024_2 : (⟨S1024, .f32⟩ : BufTy).Contents (Elt F) → (⟨S1x1x1024, .f32⟩ : BufTy).Contents (Elt F)),
    unary main_v212 main_v213 (broadcastInDim S1x2048x1024 ![0, 1, 2] bcast_S1x1x1024_S1x2048x1024_0_1_2 : (⟨S1x1x1024, .f32⟩ : BufTy).Contents (Elt F) → (⟨S1x2048x1024, .f32⟩ : BufTy).Contents (Elt F)),
    binary main_v211 main_v213 main_v214 (addf : (⟨S1x2048x1024, .f32⟩ : BufTy).Contents (Elt F) → (⟨S1x2048x1024, .f32⟩ : BufTy).Contents (Elt F) → (⟨S1x2048x1024, .f32⟩ : BufTy).Contents (Elt F)),
    nullary main_cst_33 (constant S_ .f32 0x00000000#32),
    binary main_v214 main_cst_33 main_v215 ((fun x v => Host.reduceAdd x v reducesTo_S1x2048x1024_S_d0_1_2 h_S_) : (⟨S1x2048x1024, .f32⟩ : BufTy).Contents (Elt F) → (⟨S_, .f32⟩ : BufTy).Contents (Elt F) → (⟨S_, .f32⟩ : BufTy).Contents (Elt F)) ]

/-- Both pieces of those beside the kernel's `hostOps2_11`. -/
abbrev ops2_11 : List (HloOp τ sig (Elt F)) :=
  ops2_11_part3 ++ ops2_11_part4

/-- All of @main. -/
def ops : List (HloOp τ sig (Elt F)) :=
  (ops0 ++
  (opsS0 ++
  (ops1 ++
  (ops1_1 ++
  (ops1_2 ++
  (ops1_3 ++
  (ops1_4 ++
  (opsS1 ++
  (ops2 ++
  (ops2_1 ++
  (ops2_2 ++
  (ops2_3 ++
  (ops2_4 ++
  (ops2_5 ++
  (ops2_6 ++
  (ops2_7 ++
  (ops2_8 ++
  (ops2_9 ++
  (ops2_10 ++
  ops2_11)))))))))))))))))))

theorem main_part0_eq (c : Dev nD) : main_part0 (F := F) c = seq (ops0 ++ opsS0 ++ ops1 ++ ops1_1 ++ ops1_2_part0) := rfl

theorem main_part1_eq (c : Dev nD) : main_part1 (F := F) c = seq (ops1_2_part1 ++ ops1_3 ++ ops1_4 ++ opsS1) := rfl

theorem main_part2_eq (c : Dev nD) : main_part2 (F := F) c = seq (ops2 ++ ops2_1 ++ ops2_2_part2) := rfl

theorem main_part3_eq (c : Dev nD) : main_part3 (F := F) c = seq (ops2_2_part3 ++ ops2_3 ++ ops2_4 ++ ops2_5 ++ ops2_6 ++ ops2_7 ++ ops2_8 ++ ops2_9 ++ ops2_10 ++ ops2_11_part3) := rfl

theorem main_part4_eq (c : Dev nD) : main_part4 (F := F) c = seq (ops2_11_part4) := rfl

/-- @main is its line of operations. -/
theorem main_eq (c : Dev nD) : main (F := F) c = seq ops := by
  have h : main (F := F) c = (main_part0 c >>= fun _ => main_part1 c >>= fun _ => main_part2 c >>= fun _ => main_part3 c >>= fun _ => main_part4 c) := rfl
  rw [h, main_part0_eq, main_part1_eq, main_part2_eq, main_part3_eq, main_part4_eq, ← seq_append, ← seq_append, ← seq_append, ← seq_append]
  exact congrArg seq (by simp only [ops, List.append_assoc])

end Cert.Proof.Ref

end
-- ==== Proof.Tables.lean ====
/- The buffers which the kernel and the reference hold in common, cut by cut: at each boundary between two stretches of
   host operations, the pairs of references whose contents the rest of either program still reads. -/
module

public import proofs.«01_k».proof.Proof.Gen.ReferenceIdeal
public import proofs.«01_k».proof.Proof.Gen.KernelIdeal

@[expose] public section

set_option maxRecDepth 16384

noncomputable section

namespace Cert.Proof

open Idealize.ShloMosaic Idealize.ShloMosaic.StableHlo Idealize.ShloMosaic.TcCoe Idealize.SL.Sem

/-- The arguments that are read. -/
abbrev live_start : List (Ref KernelIdeal.sig .tc × Ref ReferenceIdeal.sig .tc) :=
  [ (KernelIdeal.main_arg0, ReferenceIdeal.main_arg0),
    (KernelIdeal.main_arg1, ReferenceIdeal.main_arg1),
    (KernelIdeal.main_arg2, ReferenceIdeal.main_arg2),
    (KernelIdeal.main_arg3, ReferenceIdeal.main_arg3),
    (KernelIdeal.main_arg4, ReferenceIdeal.main_arg4),
    (KernelIdeal.main_arg5, ReferenceIdeal.main_arg5),
    (KernelIdeal.main_arg6, ReferenceIdeal.main_arg6),
    (KernelIdeal.main_arg7, ReferenceIdeal.main_arg7),
    (KernelIdeal.main_arg8, ReferenceIdeal.main_arg8),
    (KernelIdeal.main_arg9, ReferenceIdeal.main_arg9),
    (KernelIdeal.main_arg10, ReferenceIdeal.main_arg10),
    (KernelIdeal.main_arg11, ReferenceIdeal.main_arg11),
    (KernelIdeal.main_arg12, ReferenceIdeal.main_arg12),
    (KernelIdeal.main_arg13, ReferenceIdeal.main_arg13),
    (KernelIdeal.main_arg14, ReferenceIdeal.main_arg14),
    (KernelIdeal.main_arg15, ReferenceIdeal.main_arg15),
    (KernelIdeal.main_arg16, ReferenceIdeal.main_arg16),
    (KernelIdeal.main_arg17, ReferenceIdeal.main_arg17),
    (KernelIdeal.main_arg18, ReferenceIdeal.main_arg18),
    (KernelIdeal.main_arg19, ReferenceIdeal.main_arg19),
    (KernelIdeal.main_arg20, ReferenceIdeal.main_arg20),
    (KernelIdeal.main_arg21, ReferenceIdeal.main_arg21),
    (KernelIdeal.main_arg22, ReferenceIdeal.main_arg22),
    (KernelIdeal.main_arg23, ReferenceIdeal.main_arg23) ]

/-- After the stretch 0 of the kernel. -/
abbrev live0 : List (Ref KernelIdeal.sig .tc × Ref ReferenceIdeal.sig .tc) :=
  [ (KernelIdeal.main_arg0, ReferenceIdeal.main_arg0),
    (KernelIdeal.main_arg3, ReferenceIdeal.main_arg3),
    (KernelIdeal.main_arg4, ReferenceIdeal.main_arg4),
    (KernelIdeal.main_arg5, ReferenceIdeal.main_arg5),
    (KernelIdeal.main_arg6, ReferenceIdeal.main_arg6),
    (KernelIdeal.main_arg7, ReferenceIdeal.main_arg7),
    (KernelIdeal.main_arg8, ReferenceIdeal.main_arg8),
    (KernelIdeal.main_arg9, ReferenceIdeal.main_arg9),
    (KernelIdeal.main_arg10, ReferenceIdeal.main_arg10),
    (KernelIdeal.main_arg11, ReferenceIdeal.main_arg11),
    (KernelIdeal.main_arg12, ReferenceIdeal.main_arg12),
    (KernelIdeal.main_arg13, ReferenceIdeal.main_arg13),
    (KernelIdeal.main_arg14, ReferenceIdeal.main_arg14),
    (KernelIdeal.main_arg15, ReferenceIdeal.main_arg15),
    (KernelIdeal.main_arg16, ReferenceIdeal.main_arg16),
    (KernelIdeal.main_arg17, ReferenceIdeal.main_arg17),
    (KernelIdeal.main_arg18, ReferenceIdeal.main_arg18),
    (KernelIdeal.main_arg19, ReferenceIdeal.main_arg19),
    (KernelIdeal.main_arg20, ReferenceIdeal.main_arg20),
    (KernelIdeal.main_arg21, ReferenceIdeal.main_arg21),
    (KernelIdeal.main_arg22, ReferenceIdeal.main_arg22),
    (KernelIdeal.main_arg23, ReferenceIdeal.main_arg23),
    (KernelIdeal.main_v11, ReferenceIdeal.main_v11),
    (KernelIdeal.main_v13, ReferenceIdeal.main_v13),
    (KernelIdeal.main_v9, ReferenceIdeal.main_v9) ]

/-- Once layer 0 has its attention scores. -/
abbrev live_scores0 : List (Ref KernelIdeal.sig .tc × Ref ReferenceIdeal.sig .tc) :=
  [ (KernelIdeal.main_arg0, ReferenceIdeal.main_arg0),
    (KernelIdeal.main_arg3, ReferenceIdeal.main_arg3),
    (KernelIdeal.main_arg4, ReferenceIdeal.main_arg4),
    (KernelIdeal.main_arg5, ReferenceIdeal.main_arg5),
    (KernelIdeal.main_arg6, ReferenceIdeal.main_arg6),
    (KernelIdeal.main_arg7, ReferenceIdeal.main_arg7),
    (KernelIdeal.main_arg8, ReferenceIdeal.main_arg8),
    (KernelIdeal.main_arg9, ReferenceIdeal.main_arg9),
    (KernelIdeal.main_arg10, ReferenceIdeal.main_arg10),
    (KernelIdeal.main_arg11, ReferenceIdeal.main_arg11),
    (KernelIdeal.main_arg12, ReferenceIdeal.main_arg12),
    (KernelIdeal.main_arg13, ReferenceIdeal.main_arg13),
    (KernelIdeal.main_arg14, ReferenceIdeal.main_arg14),
    (KernelIdeal.main_arg15, ReferenceIdeal.main_arg15),
    (KernelIdeal.main_arg16, ReferenceIdeal.main_arg16),
    (KernelIdeal.main_arg17, ReferenceIdeal.main_arg17),
    (KernelIdeal.main_arg18, ReferenceIdeal.main_arg18),
    (KernelIdeal.main_arg19, ReferenceIdeal.main_arg19),
    (KernelIdeal.main_arg20, ReferenceIdeal.main_arg20),
    (KernelIdeal.main_arg21, ReferenceIdeal.main_arg21),
    (KernelIdeal.main_arg22, ReferenceIdeal.main_arg22),
    (KernelIdeal.main_arg23, ReferenceIdeal.main_arg23),
    (KernelIdeal.main_v13, ReferenceIdeal.main_v13),
    (KernelIdeal.main_v17, ReferenceIdeal.main_v16) ]

/-- After the stretch 1 of the kernel. -/
abbrev live1 : List (Ref KernelIdeal.sig .tc × Ref ReferenceIdeal.sig .tc) :=
  [ (KernelIdeal.main_arg5, ReferenceIdeal.main_arg5),
    (KernelIdeal.main_arg6, ReferenceIdeal.main_arg6),
    (KernelIdeal.main_arg7, ReferenceIdeal.main_arg7),
    (KernelIdeal.main_arg8, ReferenceIdeal.main_arg8),
    (KernelIdeal.main_arg9, ReferenceIdeal.main_arg9),
    (KernelIdeal.main_arg10, ReferenceIdeal.main_arg10),
    (KernelIdeal.main_arg11, ReferenceIdeal.main_arg11),
    (KernelIdeal.main_arg12, ReferenceIdeal.main_arg12),
    (KernelIdeal.main_arg13, ReferenceIdeal.main_arg13),
    (KernelIdeal.main_arg14, ReferenceIdeal.main_arg14),
    (KernelIdeal.main_arg15, ReferenceIdeal.main_arg15),
    (KernelIdeal.main_arg16, ReferenceIdeal.main_arg16),
    (KernelIdeal.main_arg17, ReferenceIdeal.main_arg17),
    (KernelIdeal.main_arg18, ReferenceIdeal.main_arg18),
    (KernelIdeal.main_arg19, ReferenceIdeal.main_arg19),
    (KernelIdeal.main_arg20, ReferenceIdeal.main_arg20),
    (KernelIdeal.main_arg21, ReferenceIdeal.main_arg21),
    (KernelIdeal.main_arg22, ReferenceIdeal.main_arg22),
    (KernelIdeal.main_arg23, ReferenceIdeal.main_arg23),
    (KernelIdeal.main_c, ReferenceIdeal.main_c),
    (KernelIdeal.main_v40, ReferenceIdeal.main_v39),
    (KernelIdeal.main_v44, ReferenceIdeal.main_v43) ]

/-- After the stretch 1_1 of the kernel. -/
abbrev live1_1 : List (Ref KernelIdeal.sig .tc × Ref ReferenceIdeal.sig .tc) :=
  [ (KernelIdeal.main_arg5, ReferenceIdeal.main_arg5),
    (KernelIdeal.main_arg6, ReferenceIdeal.main_arg6),
    (KernelIdeal.main_arg7, ReferenceIdeal.main_arg7),
    (KernelIdeal.main_arg8, ReferenceIdeal.main_arg8),
    (KernelIdeal.main_arg9, ReferenceIdeal.main_arg9),
    (KernelIdeal.main_arg10, ReferenceIdeal.main_arg10),
    (KernelIdeal.main_arg11, ReferenceIdeal.main_arg11),
    (KernelIdeal.main_arg12, ReferenceIdeal.main_arg12),
    (KernelIdeal.main_arg13, ReferenceIdeal.main_arg13),
    (KernelIdeal.main_arg14, ReferenceIdeal.main_arg14),
    (KernelIdeal.main_arg15, ReferenceIdeal.main_arg15),
    (KernelIdeal.main_arg16, ReferenceIdeal.main_arg16),
    (KernelIdeal.main_arg17, ReferenceIdeal.main_arg17),
    (KernelIdeal.main_arg18, ReferenceIdeal.main_arg18),
    (KernelIdeal.main_arg19, ReferenceIdeal.main_arg19),
    (KernelIdeal.main_arg20, ReferenceIdeal.main_arg20),
    (KernelIdeal.main_arg21, ReferenceIdeal.main_arg21),
    (KernelIdeal.main_arg22, ReferenceIdeal.main_arg22),
    (KernelIdeal.main_arg23, ReferenceIdeal.main_arg23),
    (KernelIdeal.main_v40, ReferenceIdeal.main_v39),
    (KernelIdeal.main_v44, ReferenceIdeal.main_v43),
    (KernelIdeal.main_v45, ReferenceIdeal.main_v44) ]

/-- After the stretch 1_2 of the kernel. -/
abbrev live1_2 : List (Ref KernelIdeal.sig .tc × Ref ReferenceIdeal.sig .tc) :=
  [ (KernelIdeal.main_arg11, ReferenceIdeal.main_arg11),
    (KernelIdeal.main_arg12, ReferenceIdeal.main_arg12),
    (KernelIdeal.main_arg13, ReferenceIdeal.main_arg13),
    (KernelIdeal.main_arg14, ReferenceIdeal.main_arg14),
    (KernelIdeal.main_arg15, ReferenceIdeal.main_arg15),
    (KernelIdeal.main_arg16, ReferenceIdeal.main_arg16),
    (KernelIdeal.main_arg17, ReferenceIdeal.main_arg17),
    (KernelIdeal.main_arg18, ReferenceIdeal.main_arg18),
    (KernelIdeal.main_arg19, ReferenceIdeal.main_arg19),
    (KernelIdeal.main_arg20, ReferenceIdeal.main_arg20),
    (KernelIdeal.main_arg21, ReferenceIdeal.main_arg21),
    (KernelIdeal.main_arg22, ReferenceIdeal.main_arg22),
    (KernelIdeal.main_arg23, ReferenceIdeal.main_arg23),
    (KernelIdeal.main_c_8, ReferenceIdeal.main_c_9),
    (KernelIdeal.main_v71, ReferenceIdeal.main_v70),
    (KernelIdeal.main_v75, ReferenceIdeal.main_v74) ]

/-- After the stretch 1_3 of the kernel. -/
abbrev live1_3 : List (Ref KernelIdeal.sig .tc × Ref ReferenceIdeal.sig .tc) :=
  [ (KernelIdeal.main_arg11, ReferenceIdeal.main_arg11),
    (KernelIdeal.main_arg12, ReferenceIdeal.main_arg12),
    (KernelIdeal.main_arg13, ReferenceIdeal.main_arg13),
    (KernelIdeal.main_arg14, ReferenceIdeal.main_arg14),
    (KernelIdeal.main_arg15, ReferenceIdeal.main_arg15),
    (KernelIdeal.main_arg16, ReferenceIdeal.main_arg16),
    (KernelIdeal.main_arg17, ReferenceIdeal.main_arg17),
    (KernelIdeal.main_arg18, ReferenceIdeal.main_arg18),
    (KernelIdeal.main_arg19, ReferenceIdeal.main_arg19),
    (KernelIdeal.main_arg20, ReferenceIdeal.main_arg20),
    (KernelIdeal.main_arg21, ReferenceIdeal.main_arg21),
    (KernelIdeal.main_arg22, ReferenceIdeal.main_arg22),
    (KernelIdeal.main_arg23, ReferenceIdeal.main_arg23),
    (KernelIdeal.main_v71, ReferenceIdeal.main_v70),
    (KernelIdeal.main_v75, ReferenceIdeal.main_v74),
    (KernelIdeal.main_v76, ReferenceIdeal.main_v75) ]

/-- After the stretch 1_4 of the kernel. -/
abbrev live1_4 : List (Ref KernelIdeal.sig .tc × Ref ReferenceIdeal.sig .tc) :=
  [ (KernelIdeal.main_arg15, ReferenceIdeal.main_arg15),
    (KernelIdeal.main_arg16, ReferenceIdeal.main_arg16),
    (KernelIdeal.main_arg17, ReferenceIdeal.main_arg17),
    (KernelIdeal.main_arg18, ReferenceIdeal.main_arg18),
    (KernelIdeal.main_arg19, ReferenceIdeal.main_arg19),
    (KernelIdeal.main_arg20, ReferenceIdeal.main_arg20),
    (KernelIdeal.main_arg21, ReferenceIdeal.main_arg21),
    (KernelIdeal.main_arg22, ReferenceIdeal.main_arg22),
    (KernelIdeal.main_arg23, ReferenceIdeal.main_arg23),
    (KernelIdeal.main_v101, ReferenceIdeal.main_v100),
    (KernelIdeal.main_v103, ReferenceIdeal.main_v102),
    (KernelIdeal.main_v89, ReferenceIdeal.main_v88),
    (KernelIdeal.main_v99, ReferenceIdeal.main_v98) ]

/-- Once layer 1 has its attention scores. -/
abbrev live_scores1 : List (Ref KernelIdeal.sig .tc × Ref ReferenceIdeal.sig .tc) :=
  [ (KernelIdeal.main_arg15, ReferenceIdeal.main_arg15),
    (KernelIdeal.main_arg16, ReferenceIdeal.main_arg16),
    (KernelIdeal.main_arg17, ReferenceIdeal.main_arg17),
    (KernelIdeal.main_arg18, ReferenceIdeal.main_arg18),
    (KernelIdeal.main_arg19, ReferenceIdeal.main_arg19),
    (KernelIdeal.main_arg20, ReferenceIdeal.main_arg20),
    (KernelIdeal.main_arg21, ReferenceIdeal.main_arg21),
    (KernelIdeal.main_arg22, ReferenceIdeal.main_arg22),
    (KernelIdeal.main_arg23, ReferenceIdeal.main_arg23),
    (KernelIdeal.main_v103, ReferenceIdeal.main_v102),
    (KernelIdeal.main_v107, ReferenceIdeal.main_v105),
    (KernelIdeal.main_v89, ReferenceIdeal.main_v88) ]

/-- After the stretch 2 of the kernel. -/
abbrev live2 : List (Ref KernelIdeal.sig .tc × Ref ReferenceIdeal.sig .tc) :=
  [ (KernelIdeal.main_arg17, ReferenceIdeal.main_arg17),
    (KernelIdeal.main_arg18, ReferenceIdeal.main_arg18),
    (KernelIdeal.main_arg19, ReferenceIdeal.main_arg19),
    (KernelIdeal.main_arg20, ReferenceIdeal.main_arg20),
    (KernelIdeal.main_arg21, ReferenceIdeal.main_arg21),
    (KernelIdeal.main_arg22, ReferenceIdeal.main_arg22),
    (KernelIdeal.main_arg23, ReferenceIdeal.main_arg23),
    (KernelIdeal.main_c_15, ReferenceIdeal.main_c_17),
    (KernelIdeal.main_v130, ReferenceIdeal.main_v128),
    (KernelIdeal.main_v134, ReferenceIdeal.main_v132) ]

/-- After the stretch 2_1 of the kernel. -/
abbrev live2_1 : List (Ref KernelIdeal.sig .tc × Ref ReferenceIdeal.sig .tc) :=
  [ (KernelIdeal.main_arg17, ReferenceIdeal.main_arg17),
    (KernelIdeal.main_arg18, ReferenceIdeal.main_arg18),
    (KernelIdeal.main_arg19, ReferenceIdeal.main_arg19),
    (KernelIdeal.main_arg20, ReferenceIdeal.main_arg20),
    (KernelIdeal.main_arg21, ReferenceIdeal.main_arg21),
    (KernelIdeal.main_arg22, ReferenceIdeal.main_arg22),
    (KernelIdeal.main_arg23, ReferenceIdeal.main_arg23),
    (KernelIdeal.main_v130, ReferenceIdeal.main_v128),
    (KernelIdeal.main_v134, ReferenceIdeal.main_v132),
    (KernelIdeal.main_v135, ReferenceIdeal.main_v133) ]

/-- After the stretch 2_2 of the kernel. -/
abbrev live2_2 : List (Ref KernelIdeal.sig .tc × Ref ReferenceIdeal.sig .tc) :=
  [ (KernelIdeal.main_arg18, ReferenceIdeal.main_arg18),
    (KernelIdeal.main_arg19, ReferenceIdeal.main_arg19),
    (KernelIdeal.main_arg22, ReferenceIdeal.main_arg22),
    (KernelIdeal.main_arg23, ReferenceIdeal.main_arg23),
    (KernelIdeal.main_v148, ReferenceIdeal.main_v146),
    (KernelIdeal.main_v160, ReferenceIdeal.main_v158),
    (KernelIdeal.main_v161, ReferenceIdeal.main_v159) ]

/-- After the stretch 2_3 of the kernel. -/
abbrev live2_3 : List (Ref KernelIdeal.sig .tc × Ref ReferenceIdeal.sig .tc) :=
  [ (KernelIdeal.main_arg18, ReferenceIdeal.main_arg18),
    (KernelIdeal.main_arg19, ReferenceIdeal.main_arg19),
    (KernelIdeal.main_arg22, ReferenceIdeal.main_arg22),
    (KernelIdeal.main_arg23, ReferenceIdeal.main_arg23),
    (KernelIdeal.main_v148, ReferenceIdeal.main_v146),
    (KernelIdeal.main_v161, ReferenceIdeal.main_v159),
    (KernelIdeal.main_v162, ReferenceIdeal.main_v160) ]

/-- After the stretch 2_4 of the kernel. -/
abbrev live2_4 : List (Ref KernelIdeal.sig .tc × Ref ReferenceIdeal.sig .tc) :=
  [ (KernelIdeal.main_arg18, ReferenceIdeal.main_arg18),
    (KernelIdeal.main_arg19, ReferenceIdeal.main_arg19),
    (KernelIdeal.main_arg22, ReferenceIdeal.main_arg22),
    (KernelIdeal.main_arg23, ReferenceIdeal.main_arg23),
    (KernelIdeal.main_v148, ReferenceIdeal.main_v146),
    (KernelIdeal.main_v161, ReferenceIdeal.main_v159),
    (KernelIdeal.main_v162, ReferenceIdeal.main_v160),
    (KernelIdeal.main_v163, ReferenceIdeal.main_v161) ]

/-- After the stretch 2_5 of the kernel. -/
abbrev live2_5 : List (Ref KernelIdeal.sig .tc × Ref ReferenceIdeal.sig .tc) :=
  [ (KernelIdeal.main_arg18, ReferenceIdeal.main_arg18),
    (KernelIdeal.main_arg19, ReferenceIdeal.main_arg19),
    (KernelIdeal.main_arg22, ReferenceIdeal.main_arg22),
    (KernelIdeal.main_arg23, ReferenceIdeal.main_arg23),
    (KernelIdeal.main_v148, ReferenceIdeal.main_v146),
    (KernelIdeal.main_v161, ReferenceIdeal.main_v159),
    (KernelIdeal.main_v162, ReferenceIdeal.main_v160),
    (KernelIdeal.main_v163, ReferenceIdeal.main_v161),
    (KernelIdeal.main_v164, ReferenceIdeal.main_v162) ]

/-- After the stretch 2_6 of the kernel. -/
abbrev live2_6 : List (Ref KernelIdeal.sig .tc × Ref ReferenceIdeal.sig .tc) :=
  [ (KernelIdeal.main_arg18, ReferenceIdeal.main_arg18),
    (KernelIdeal.main_arg19, ReferenceIdeal.main_arg19),
    (KernelIdeal.main_arg22, ReferenceIdeal.main_arg22),
    (KernelIdeal.main_arg23, ReferenceIdeal.main_arg23),
    (KernelIdeal.main_v148, ReferenceIdeal.main_v146),
    (KernelIdeal.main_v161, ReferenceIdeal.main_v159),
    (KernelIdeal.main_v162, ReferenceIdeal.main_v160),
    (KernelIdeal.main_v170, ReferenceIdeal.main_v168),
    (KernelIdeal.main_v172, ReferenceIdeal.main_v170) ]

/-- After the stretch 2_7 of the kernel. -/
abbrev live2_7 : List (Ref KernelIdeal.sig .tc × Ref ReferenceIdeal.sig .tc) :=
  [ (KernelIdeal.main_arg18, ReferenceIdeal.main_arg18),
    (KernelIdeal.main_arg19, ReferenceIdeal.main_arg19),
    (KernelIdeal.main_arg22, ReferenceIdeal.main_arg22),
    (KernelIdeal.main_arg23, ReferenceIdeal.main_arg23),
    (KernelIdeal.main_v148, ReferenceIdeal.main_v146),
    (KernelIdeal.main_v161, ReferenceIdeal.main_v159),
    (KernelIdeal.main_v170, ReferenceIdeal.main_v168),
    (KernelIdeal.main_v172, ReferenceIdeal.main_v170),
    (KernelIdeal.main_v178, ReferenceIdeal.main_v176) ]

/-- After the stretch 2_8 of the kernel. -/
abbrev live2_8 : List (Ref KernelIdeal.sig .tc × Ref ReferenceIdeal.sig .tc) :=
  [ (KernelIdeal.main_arg18, ReferenceIdeal.main_arg18),
    (KernelIdeal.main_arg19, ReferenceIdeal.main_arg19),
    (KernelIdeal.main_arg22, ReferenceIdeal.main_arg22),
    (KernelIdeal.main_arg23, ReferenceIdeal.main_arg23),
    (KernelIdeal.main_v148, ReferenceIdeal.main_v146),
    (KernelIdeal.main_v161, ReferenceIdeal.main_v159),
    (KernelIdeal.main_v172, ReferenceIdeal.main_v170),
    (KernelIdeal.main_v178, ReferenceIdeal.main_v176),
    (KernelIdeal.main_v179, ReferenceIdeal.main_v177) ]

/-- After the stretch 2_9 of the kernel. -/
abbrev live2_9 : List (Ref KernelIdeal.sig .tc × Ref ReferenceIdeal.sig .tc) :=
  [ (KernelIdeal.main_arg22, ReferenceIdeal.main_arg22),
    (KernelIdeal.main_arg23, ReferenceIdeal.main_arg23),
    (KernelIdeal.main_c_29, ReferenceIdeal.main_c_31),
    (KernelIdeal.main_v198, ReferenceIdeal.main_v196),
    (KernelIdeal.main_v202, ReferenceIdeal.main_v200) ]

/-- After the stretch 2_10 of the kernel. -/
abbrev live2_10 : List (Ref KernelIdeal.sig .tc × Ref ReferenceIdeal.sig .tc) :=
  [ (KernelIdeal.main_arg22, ReferenceIdeal.main_arg22),
    (KernelIdeal.main_arg23, ReferenceIdeal.main_arg23),
    (KernelIdeal.main_v198, ReferenceIdeal.main_v196),
    (KernelIdeal.main_v202, ReferenceIdeal.main_v200),
    (KernelIdeal.main_v203, ReferenceIdeal.main_v201) ]

/-- After the stretch 2_11 of the kernel. -/
abbrev live2_11 : List (Ref KernelIdeal.sig .tc × Ref ReferenceIdeal.sig .tc) :=
  [ (KernelIdeal.main_v217, ReferenceIdeal.main_v215) ]

end Cert.Proof

end
-- ==== Proof.LinesA.lean ====
/- Stretches of the kernel's host operations beside the reference's operations for the same values: each pair of lines takes
   agreement on the pairs live before it to agreement on the pairs live after it. -/
module

public import proofs.«01_k».proof.Proof.RefOps
public import proofs.«01_k».proof.Proof.Tables
public import proofs.«01_k».proof.Proof.Gen.KernelIdeal.Launch

@[expose] public section

set_option maxRecDepth 16384

noncomputable section

namespace Cert.Proof

open Idealize.ShloMosaic Idealize.ShloMosaic.StableHlo Idealize.ShloMosaic.TcCoe Idealize.SL.Sem

variable {F : FTy → Type} [FloatOps F]

/-- The kernel's stretch 0 beside the reference's. -/
theorem line0 : SimLine (Val := Elt F) (τ := KernelIdeal.τ) (τ' := ReferenceIdeal.τ) live_start
    KernelIdeal.Gen.hostOps0 Ref.ops0 live0 := by
  refine .unary (k := ?_)
  refine .binary (k := ?_)
  refine .unary (k := ?_)
  refine .unary (k := ?_)
  refine .binary (k := ?_)
  refine .unary (k := ?_)
  refine .unary (k := ?_)
  refine .unary (k := ?_)
  refine .reshape (k := ?_)
  refine .unary (k := ?_)
  refine .reshape (k := ?_)
  refine .unary (k := ?_)
  refine .reshape (k := ?_)
  refine .unary (k := ?_)
  refine .skip (y := KernelIdeal.main_v14) rfl (by decide +kernel) ?_
  refine .skip (y := KernelIdeal.main_v15) rfl (by decide +kernel) ?_
  exact .nil (by decide +kernel)

/-- The kernel's stretch 1, its first operation apart, beside the reference's. -/
theorem line1 : SimLine (Val := Elt F) (τ := KernelIdeal.τ) (τ' := ReferenceIdeal.τ) live_scores0
    KernelIdeal.Gen.hostOps1.tail Ref.ops1 live1 := by
  refine .nullary (k := ?_)
  refine .binary (k := ?_)
  refine .nullary (k := ?_)
  refine .unary (k := ?_)
  refine .binary (k := ?_)
  refine .unary (k := ?_)
  refine .unary (k := ?_)
  refine .binary (k := ?_)
  refine .unary (k := ?_)
  refine .nullary (k := ?_)
  refine .binary (k := ?_)
  refine .unary (k := ?_)
  refine .unary (k := ?_)
  refine .binary (k := ?_)
  refine .reshape (k := ?_)
  refine .reshape (k := ?_)
  refine .binary (k := ?_)
  refine .unary (k := ?_)
  refine .unary (k := ?_)
  refine .reshape (k := ?_)
  refine .unary (k := ?_)
  refine .binary (k := ?_)
  refine .unary (k := ?_)
  refine .unary (k := ?_)
  refine .binary (k := ?_)
  refine .binary (k := ?_)
  refine .nullary (k := ?_)
  refine .binary (k := ?_)
  refine .unary (k := ?_)
  refine .nullary (k := ?_)
  refine .unary (k := ?_)
  refine .binary (k := ?_)
  refine .nullary (k := ?_)
  exact .nil (by decide +kernel)

/-- The kernel's stretch 1_1 beside the reference's. -/
theorem line1_1 : SimLine (Val := Elt F) (τ := KernelIdeal.τ) (τ' := ReferenceIdeal.τ) live1
    KernelIdeal.Gen.hostOps1_1 Ref.ops1_1 live1_1 := by
  refine .nullary (k := ?_)
  refine .binary (k := ?_)
  refine .unary (k := ?_)
  refine .nullary (k := ?_)
  refine .unary (k := ?_)
  refine .binary (k := ?_)
  refine .unary (k := ?_)
  refine .binary (k := ?_)
  refine .binary (k := ?_)
  refine .unary (k := ?_)
  refine .nullary (k := ?_)
  refine .binary (k := ?_)
  refine .nullary (k := ?_)
  refine .binary (k := ?_)
  refine .unary (k := ?_)
  refine .unary (k := ?_)
  refine .binary (k := ?_)
  refine .nullary (k := ?_)
  refine .binary (k := ?_)
  refine .nullary (k := ?_)
  refine .unary (k := ?_)
  refine .unary (k := ?_)
  refine .ternary (k := ?_)
  exact .nil (by decide +kernel)

end Cert.Proof

end
-- ==== Proof.LinesB.lean ====
/- Stretches of the kernel's host operations beside the reference's operations for the same values: each pair of lines takes
   agreement on the pairs live before it to agreement on the pairs live after it. -/
module

public import proofs.«01_k».proof.Proof.RefOps
public import proofs.«01_k».proof.Proof.Tables
public import proofs.«01_k».proof.Proof.Gen.KernelIdeal.Launch

@[expose] public section

set_option maxRecDepth 16384

noncomputable section

namespace Cert.Proof

open Idealize.ShloMosaic Idealize.ShloMosaic.StableHlo Idealize.ShloMosaic.TcCoe Idealize.SL.Sem

variable {F : FTy → Type} [FloatOps F]

/-- The kernel's stretch 1_2 beside the reference's. -/
theorem line1_2 : SimLine (Val := Elt F) (τ := KernelIdeal.τ) (τ' := ReferenceIdeal.τ) live1_1
    KernelIdeal.Gen.hostOps1_2 Ref.ops1_2 live1_2 := by
  refine .unary (k := ?_)
  refine .binary (k := ?_)
  refine .nullary (k := ?_)
  refine .unary (k := ?_)
  refine .binary (k := ?_)
  refine .unary (k := ?_)
  refine .unary (k := ?_)
  refine .binary (k := ?_)
  refine .unary (k := ?_)
  refine .unary (k := ?_)
  refine .binary (k := ?_)
  refine .unary (k := ?_)
  refine .unary (k := ?_)
  refine .binary (k := ?_)
  refine .unary (k := ?_)
  refine .binary (k := ?_)
  refine .unary (k := ?_)
  refine .unary (k := ?_)
  refine .binary (k := ?_)
  refine .nullary (k := ?_)
  refine .unary (k := ?_)
  refine .binary (k := ?_)
  refine .unary (k := ?_)
  refine .binary (k := ?_)
  refine .unary (k := ?_)
  refine .unary (k := ?_)
  refine .binary (k := ?_)
  refine .binary (k := ?_)
  refine .nullary (k := ?_)
  refine .binary (k := ?_)
  refine .unary (k := ?_)
  refine .nullary (k := ?_)
  refine .unary (k := ?_)
  refine .binary (k := ?_)
  refine .nullary (k := ?_)
  exact .nil (by decide +kernel)

/-- The kernel's stretch 1_3 beside the reference's. -/
theorem line1_3 : SimLine (Val := Elt F) (τ := KernelIdeal.τ) (τ' := ReferenceIdeal.τ) live1_2
    KernelIdeal.Gen.hostOps1_3 Ref.ops1_3 live1_3 := by
  refine .nullary (k := ?_)
  refine .binary (k := ?_)
  refine .unary (k := ?_)
  refine .nullary (k := ?_)
  refine .unary (k := ?_)
  refine .binary (k := ?_)
  refine .unary (k := ?_)
  refine .binary (k := ?_)
  refine .binary (k := ?_)
  refine .unary (k := ?_)
  refine .nullary (k := ?_)
  refine .binary (k := ?_)
  refine .nullary (k := ?_)
  refine .binary (k := ?_)
  refine .unary (k := ?_)
  refine .unary (k := ?_)
  refine .binary (k := ?_)
  refine .nullary (k := ?_)
  refine .binary (k := ?_)
  refine .nullary (k := ?_)
  refine .unary (k := ?_)
  refine .unary (k := ?_)
  refine .ternary (k := ?_)
  exact .nil (by decide +kernel)

/-- The kernel's stretch 1_4 beside the reference's. -/
theorem line1_4 : SimLine (Val := Elt F) (τ := KernelIdeal.τ) (τ' := ReferenceIdeal.τ) live1_3
    KernelIdeal.Gen.hostOps1_4 Ref.ops1_4 live1_4 := by
  refine .unary (k := ?_)
  refine .binary (k := ?_)
  refine .nullary (k := ?_)
  refine .unary (k := ?_)
  refine .binary (k := ?_)
  refine .unary (k := ?_)
  refine .unary (k := ?_)
  refine .binary (k := ?_)
  refine .unary (k := ?_)
  refine .unary (k := ?_)
  refine .binary (k := ?_)
  refine .unary (k := ?_)
  refine .unary (k := ?_)
  refine .binary (k := ?_)
  refine .unary (k := ?_)
  refine .binary (k := ?_)
  refine .unary (k := ?_)
  refine .unary (k := ?_)
  refine .binary (k := ?_)
  refine .unary (k := ?_)
  refine .unary (k := ?_)
  refine .unary (k := ?_)
  refine .reshape (k := ?_)
  refine .unary (k := ?_)
  refine .reshape (k := ?_)
  refine .unary (k := ?_)
  refine .reshape (k := ?_)
  refine .unary (k := ?_)
  refine .skip (y := KernelIdeal.main_v104) rfl (by decide +kernel) ?_
  refine .skip (y := KernelIdeal.main_v105) rfl (by decide +kernel) ?_
  exact .nil (by decide +kernel)

end Cert.Proof

end
-- ==== Proof.LinesC.lean ====
/- Stretches of the kernel's host operations beside the reference's operations for the same values: each pair of lines takes
   agreement on the pairs live before it to agreement on the pairs live after it. -/
module

public import proofs.«01_k».proof.Proof.RefOps
public import proofs.«01_k».proof.Proof.Tables
public import proofs.«01_k».proof.Proof.Gen.KernelIdeal.Launch

@[expose] public section

set_option maxRecDepth 16384

noncomputable section

namespace Cert.Proof

open Idealize.ShloMosaic Idealize.ShloMosaic.StableHlo Idealize.ShloMosaic.TcCoe Idealize.SL.Sem

variable {F : FTy → Type} [FloatOps F]

/-- The kernel's stretch 2, its first operation apart, beside the reference's. -/
theorem line2 : SimLine (Val := Elt F) (τ := KernelIdeal.τ) (τ' := ReferenceIdeal.τ) live_scores1
    KernelIdeal.Gen.hostOps2.tail Ref.ops2 live2 := by
  refine .nullary (k := ?_)
  refine .binary (k := ?_)
  refine .nullary (k := ?_)
  refine .unary (k := ?_)
  refine .binary (k := ?_)
  refine .unary (k := ?_)
  refine .unary (k := ?_)
  refine .binary (k := ?_)
  refine .unary (k := ?_)
  refine .nullary (k := ?_)
  refine .binary (k := ?_)
  refine .unary (k := ?_)
  refine .unary (k := ?_)
  refine .binary (k := ?_)
  refine .reshape (k := ?_)
  refine .reshape (k := ?_)
  refine .binary (k := ?_)
  refine .unary (k := ?_)
  refine .unary (k := ?_)
  refine .reshape (k := ?_)
  refine .unary (k := ?_)
  refine .binary (k := ?_)
  refine .unary (k := ?_)
  refine .unary (k := ?_)
  refine .binary (k := ?_)
  refine .binary (k := ?_)
  refine .nullary (k := ?_)
  refine .binary (k := ?_)
  refine .unary (k := ?_)
  refine .nullary (k := ?_)
  refine .unary (k := ?_)
  refine .binary (k := ?_)
  refine .nullary (k := ?_)
  exact .nil (by decide +kernel)

/-- The kernel's stretch 2_1 beside the reference's. -/
theorem line2_1 : SimLine (Val := Elt F) (τ := KernelIdeal.τ) (τ' := ReferenceIdeal.τ) live2
    KernelIdeal.Gen.hostOps2_1 Ref.ops2_1 live2_1 := by
  refine .nullary (k := ?_)
  refine .binary (k := ?_)
  refine .unary (k := ?_)
  refine .nullary (k := ?_)
  refine .unary (k := ?_)
  refine .binary (k := ?_)
  refine .unary (k := ?_)
  refine .binary (k := ?_)
  refine .binary (k := ?_)
  refine .unary (k := ?_)
  refine .nullary (k := ?_)
  refine .binary (k := ?_)
  refine .nullary (k := ?_)
  refine .binary (k := ?_)
  refine .unary (k := ?_)
  refine .unary (k := ?_)
  refine .binary (k := ?_)
  refine .nullary (k := ?_)
  refine .binary (k := ?_)
  refine .nullary (k := ?_)
  refine .unary (k := ?_)
  refine .unary (k := ?_)
  refine .ternary (k := ?_)
  exact .nil (by decide +kernel)

end Cert.Proof

end
-- ==== Proof.LinesD.lean ====
/- Stretches of the kernel's host operations beside the reference's operations for the same values: each pair of lines takes
   agreement on the pairs live before it to agreement on the pairs live after it. -/
module

public import proofs.«01_k».proof.Proof.RefOps
public import proofs.«01_k».proof.Proof.Tables
public import proofs.«01_k».proof.Proof.Gen.KernelIdeal.Launch

@[expose] public section

set_option maxRecDepth 16384

noncomputable section

namespace Cert.Proof

open Idealize.ShloMosaic Idealize.ShloMosaic.StableHlo Idealize.ShloMosaic.TcCoe Idealize.SL.Sem

variable {F : FTy → Type} [FloatOps F]

/-- The kernel's stretch 2_2 beside the reference's. -/
theorem line2_2 : SimLine (Val := Elt F) (τ := KernelIdeal.τ) (τ' := ReferenceIdeal.τ) live2_1
    KernelIdeal.Gen.hostOps2_2 Ref.ops2_2 live2_2 := by
  refine .unary (k := ?_)
  refine .binary (k := ?_)
  refine .nullary (k := ?_)
  refine .unary (k := ?_)
  refine .binary (k := ?_)
  refine .unary (k := ?_)
  refine .unary (k := ?_)
  refine .binary (k := ?_)
  refine .unary (k := ?_)
  refine .unary (k := ?_)
  refine .binary (k := ?_)
  refine .unary (k := ?_)
  refine .unary (k := ?_)
  refine .binary (k := ?_)
  refine .binary (k := ?_)
  refine .nullary (k := ?_)
  refine .binary (k := ?_)
  refine .nullary (k := ?_)
  refine .unary (k := ?_)
  refine .binary (k := ?_)
  refine .unary (k := ?_)
  refine .unary (k := ?_)
  refine .binary (k := ?_)
  refine .unary (k := ?_)
  refine .nullary (k := ?_)
  refine .binary (k := ?_)
  refine .unary (k := ?_)
  refine .unary (k := ?_)
  refine .binary (k := ?_)
  refine .nullary (k := ?_)
  refine .binary (k := ?_)
  exact .nil (by decide +kernel)

/-- The kernel's stretch 2_3 beside the reference's. -/
theorem line2_3 : SimLine (Val := Elt F) (τ := KernelIdeal.τ) (τ' := ReferenceIdeal.τ) live2_2
    KernelIdeal.Gen.hostOps2_3 Ref.ops2_3 live2_3 := by
  refine .nullary (k := ?_)
  refine .nullary (k := ?_)
  refine .nullary (k := ?_)
  refine .quaternary (k := ?_)
  refine .quaternary (k := ?_)
  exact .nil (by decide +kernel)

/-- The kernel's stretch 2_4 beside the reference's. -/
theorem line2_4 : SimLine (Val := Elt F) (τ := KernelIdeal.τ) (τ' := ReferenceIdeal.τ) live2_3
    KernelIdeal.Gen.hostOps2_4 Ref.ops2_4 live2_4 := by
  refine .unary (k := ?_)
  refine .nullary (k := ?_)
  refine .unary (k := ?_)
  refine .unary (k := ?_)
  refine .binary (k := ?_)
  refine .unary (k := ?_)
  exact .nil (by decide +kernel)

/-- The kernel's stretch 2_5 beside the reference's. -/
theorem line2_5 : SimLine (Val := Elt F) (τ := KernelIdeal.τ) (τ' := ReferenceIdeal.τ) live2_4
    KernelIdeal.Gen.hostOps2_5 Ref.ops2_5 live2_5 := by
  refine .nullary (k := ?_)
  refine .unary (k := ?_)
  refine .binary (k := ?_)
  exact .nil (by decide +kernel)

/-- The kernel's stretch 2_6 beside the reference's. -/
theorem line2_6 : SimLine (Val := Elt F) (τ := KernelIdeal.τ) (τ' := ReferenceIdeal.τ) live2_5
    KernelIdeal.Gen.hostOps2_6 Ref.ops2_6 live2_6 := by
  refine .binary (k := ?_)
  refine .nullary (k := ?_)
  refine .unary (k := ?_)
  refine .binary (k := ?_)
  refine .unary (k := ?_)
  refine .binary (k := ?_)
  refine .binary (k := ?_)
  refine .nullary (k := ?_)
  refine .binary (k := ?_)
  refine .unary (k := ?_)
  refine .nullary (k := ?_)
  refine .binary (k := ?_)
  refine .nullary (k := ?_)
  refine .unary (k := ?_)
  refine .binary (k := ?_)
  refine .binary (k := ?_)
  refine .reshape (k := ?_)
  exact .nil (by decide +kernel)

/-- The kernel's stretch 2_7 beside the reference's. -/
theorem line2_7 : SimLine (Val := Elt F) (τ := KernelIdeal.τ) (τ' := ReferenceIdeal.τ) live2_6
    KernelIdeal.Gen.hostOps2_7 Ref.ops2_7 live2_7 := by
  refine .unary (k := ?_)
  refine .nullary (k := ?_)
  refine .unary (k := ?_)
  refine .unary (k := ?_)
  refine .binary (k := ?_)
  refine .unary (k := ?_)
  exact .nil (by decide +kernel)

/-- The kernel's stretch 2_8 beside the reference's. -/
theorem line2_8 : SimLine (Val := Elt F) (τ := KernelIdeal.τ) (τ' := ReferenceIdeal.τ) live2_7
    KernelIdeal.Gen.hostOps2_8 Ref.ops2_8 live2_8 := by
  refine .unary (k := ?_)
  refine .nullary (k := ?_)
  refine .unary (k := ?_)
  refine .unary (k := ?_)
  refine .binary (k := ?_)
  refine .unary (k := ?_)
  exact .nil (by decide +kernel)

end Cert.Proof

end
-- ==== Proof.LinesE.lean ====
/- Stretches of the kernel's host operations beside the reference's operations for the same values: each pair of lines takes
   agreement on the pairs live before it to agreement on the pairs live after it. -/
module

public import proofs.«01_k».proof.Proof.RefOps
public import proofs.«01_k».proof.Proof.Tables
public import proofs.«01_k».proof.Proof.Gen.KernelIdeal.Launch

@[expose] public section

set_option maxRecDepth 16384

noncomputable section

namespace Cert.Proof

open Idealize.ShloMosaic Idealize.ShloMosaic.StableHlo Idealize.ShloMosaic.TcCoe Idealize.SL.Sem

variable {F : FTy → Type} [FloatOps F]

/-- The kernel's stretch 2_9 beside the reference's. -/
theorem line2_9 : SimLine (Val := Elt F) (τ := KernelIdeal.τ) (τ' := ReferenceIdeal.τ) live2_8
    KernelIdeal.Gen.hostOps2_9 Ref.ops2_9 live2_9 := by
  refine .binary (k := ?_)
  refine .unary (k := ?_)
  refine .unary (k := ?_)
  refine .unary (k := ?_)
  refine .binary (k := ?_)
  refine .unary (k := ?_)
  refine .binary (k := ?_)
  refine .nullary (k := ?_)
  refine .unary (k := ?_)
  refine .binary (k := ?_)
  refine .unary (k := ?_)
  refine .binary (k := ?_)
  refine .binary (k := ?_)
  refine .unary (k := ?_)
  refine .nullary (k := ?_)
  refine .unary (k := ?_)
  refine .binary (k := ?_)
  refine .binary (k := ?_)
  refine .unary (k := ?_)
  refine .binary (k := ?_)
  refine .binary (k := ?_)
  refine .nullary (k := ?_)
  refine .binary (k := ?_)
  refine .unary (k := ?_)
  refine .nullary (k := ?_)
  refine .unary (k := ?_)
  refine .binary (k := ?_)
  refine .nullary (k := ?_)
  exact .nil (by decide +kernel)

/-- The kernel's stretch 2_10 beside the reference's. -/
theorem line2_10 : SimLine (Val := Elt F) (τ := KernelIdeal.τ) (τ' := ReferenceIdeal.τ) live2_9
    KernelIdeal.Gen.hostOps2_10 Ref.ops2_10 live2_10 := by
  refine .nullary (k := ?_)
  refine .binary (k := ?_)
  refine .unary (k := ?_)
  refine .nullary (k := ?_)
  refine .unary (k := ?_)
  refine .binary (k := ?_)
  refine .unary (k := ?_)
  refine .binary (k := ?_)
  refine .binary (k := ?_)
  refine .unary (k := ?_)
  refine .nullary (k := ?_)
  refine .binary (k := ?_)
  refine .nullary (k := ?_)
  refine .binary (k := ?_)
  refine .unary (k := ?_)
  refine .unary (k := ?_)
  refine .binary (k := ?_)
  refine .nullary (k := ?_)
  refine .binary (k := ?_)
  refine .nullary (k := ?_)
  refine .unary (k := ?_)
  refine .unary (k := ?_)
  refine .ternary (k := ?_)
  exact .nil (by decide +kernel)

/-- The kernel's stretch 2_11 beside the reference's. -/
theorem line2_11 : SimLine (Val := Elt F) (τ := KernelIdeal.τ) (τ' := ReferenceIdeal.τ) live2_10
    KernelIdeal.Gen.hostOps2_11 Ref.ops2_11 live2_11 := by
  refine .unary (k := ?_)
  refine .binary (k := ?_)
  refine .nullary (k := ?_)
  refine .unary (k := ?_)
  refine .binary (k := ?_)
  refine .unary (k := ?_)
  refine .unary (k := ?_)
  refine .binary (k := ?_)
  refine .unary (k := ?_)
  refine .unary (k := ?_)
  refine .binary (k := ?_)
  refine .unary (k := ?_)
  refine .unary (k := ?_)
  refine .binary (k := ?_)
  refine .nullary (k := ?_)
  refine .binary (k := ?_)
  exact .nil (by decide +kernel)

end Cert.Proof

end
-- ==== Proof.RefRun.lean ====
/- The reference's run: every schedule of it ends with each TensorCore buffer at the contents its line of operations
   computes, every argument array as it was launched, and every semaphore at zero. -/
module

public import proofs.«01_k».proof.Proof.RefOps

@[expose] public section

set_option maxRecDepth 16384

noncomputable section

namespace Cert.Proof.Ref

open Idealize.ShloMosaic Idealize.ShloMosaic.StableHlo Idealize.ShloMosaic.TcCoe Idealize.SL.Sem
open Cert.ReferenceIdeal Cert.ReferenceIdeal.Facts₀ Cert.ReferenceIdeal.Facts

variable {F : FTy → Type} [FloatOps F]

/-- The argument arrays. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

/-- What is needed of a stretch for the run: it touches TensorCore references only, allocates nothing, and leaves the
    argument arrays alone. -/
structure Plain (l : List (HloOp τ sig (Elt F))) : Prop where
  sub : l.Forall fun op => op.bufs ⊆ tcRefs τ sig
  fresh : l.Forall fun op => op.fresh = ∅
  keeps : Keeps args l

/-- Stretches in sequence. -/
theorem Plain.append {l k : List (HloOp τ sig (Elt F))} (h : Plain l) (h' : Plain k) : Plain (l ++ k) :=
  ⟨List.forall_append.2 ⟨h.sub, h'.sub⟩, List.forall_append.2 ⟨h.fresh, h'.fresh⟩, h.keeps.append h'.keeps⟩

theorem ops0_plain : Plain (F := F) ops0 where
  sub := ⟨unary_bufs_sub .., binary_bufs_sub .., unary_bufs_sub .., unary_bufs_sub .., binary_bufs_sub .., unary_bufs_sub .., unary_bufs_sub .., unary_bufs_sub .., reshape_bufs_sub .., unary_bufs_sub .., reshape_bufs_sub .., unary_bufs_sub .., reshape_bufs_sub .., unary_bufs_sub ..⟩
  fresh := ⟨rfl, rfl, rfl, rfl, rfl, rfl, rfl, rfl, rfl, rfl, rfl, rfl, rfl, rfl⟩
  keeps := .of_writes [main_v0, main_v1, main_v2, main_v3, main_v4, main_v5, main_v6, main_v7, main_v8, main_v9, main_v10, main_v11, main_v12, main_v13] rfl (ListAll.forall_mem_of_all_decide (by decide +kernel))

theorem opsS0_plain : Plain (F := F) opsS0 where
  sub := ⟨binary_bufs_sub .., nullary_bufs_sub .., unary_bufs_sub .., binary_bufs_sub ..⟩
  fresh := ⟨rfl, rfl, rfl, rfl⟩
  keeps := .of_writes [main_v14, main_cst, main_v15, main_v16] rfl (ListAll.forall_mem_of_all_decide (by decide +kernel))

theorem ops1_plain : Plain (F := F) ops1 where
  sub := ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., reshape_bufs_sub .., binary_bufs_sub .., unary_bufs_sub .., unary_bufs_sub .., reshape_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub ..⟩
  fresh := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
  keeps := .of_writes [main_cst_0, main_v17, main_cst_1, main_v18, main_v19, main_v20, main_v21, main_v22, main_v23, main_cst_2, main_v24, main_v25, main_v26, main_v27, main_v28, main_v29, main_v30, main_v31, main_v32, main_v33, main_v34, main_v35, main_v36, main_v37, main_v38, main_v39, main_cst_3, main_v40, main_v41, main_cst_4, main_v42, main_v43, main_c] rfl (ListAll.forall_mem_of_all_decide (by decide +kernel))

theorem ops1_1_plain : Plain (F := F) ops1_1 where
  sub := ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
  fresh := ⟨rfl, rfl, rfl, rfl, rfl, rfl, rfl, rfl, rfl, rfl, rfl, rfl, rfl, rfl, rfl, rfl, rfl, rfl, rfl, rfl, rfl, rfl, rfl⟩
  keeps := .of_writes [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v44] rfl (ListAll.forall_mem_of_all_decide (by decide +kernel))

theorem ops1_2_part0_plain : Plain (F := F) ops1_2_part0 where
  sub := ⟨unary_bufs_sub .., binary_bufs_sub .., nullary_bufs_sub .., unary_bufs_sub .., binary_bufs_sub .., unary_bufs_sub .., unary_bufs_sub .., binary_bufs_sub ..⟩
  fresh := ⟨rfl, rfl, rfl, rfl, rfl, rfl, rfl, rfl⟩
  keeps := .of_writes [main_v45, main_v46, main_cst_5, main_v47, main_v48, main_v49, main_v50, main_v51] rfl (ListAll.forall_mem_of_all_decide (by decide +kernel))

theorem ops1_2_part1_plain : Plain (F := F) ops1_2_part1 where
  sub := ⟨unary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub ..⟩
  fresh := ⟨rfl, rfl, rfl, rfl, rfl, rfl, rfl, rfl, rfl, rfl, rfl, rfl, rfl, rfl, rfl, rfl, rfl, rfl, rfl, rfl, rfl, rfl, rfl, rfl, rfl, rfl, rfl⟩
  keeps := .of_writes [main_v52, main_v53, main_v54, main_v55, main_v56, main_v57, main_v58, main_v59, main_v60, main_v61, main_v62, main_cst_6, main_v63, main_v64, main_v65, main_v66, main_v67, main_v68, main_v69, main_v70, main_cst_7, main_v71, main_v72, main_cst_8, main_v73, main_v74, main_c_9] rfl (ListAll.forall_mem_of_all_decide (by decide +kernel))

theorem ops1_3_plain : Plain (F := F) ops1_3 where
  sub := ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
  fresh := ⟨rfl, rfl, rfl, rfl, rfl, rfl, rfl, rfl, rfl, rfl, rfl, rfl, rfl, rfl, rfl, rfl, rfl, rfl, rfl, rfl, rfl, rfl, rfl⟩
  keeps := .of_writes [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v75] rfl (ListAll.forall_mem_of_all_decide (by decide +kernel))

theorem ops1_4_plain : Plain (F := F) ops1_4 where
  sub := ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., reshape_bufs_sub .., unary_bufs_sub .., reshape_bufs_sub .., unary_bufs_sub .., reshape_bufs_sub .., unary_bufs_sub ..⟩
  fresh := ⟨rfl, rfl, rfl, rfl, rfl, rfl, rfl, rfl, rfl, rfl, rfl, rfl, rfl, rfl, rfl, rfl, rfl, rfl, rfl, rfl, rfl, rfl, rfl, rfl, rfl, rfl, rfl, rfl⟩
  keeps := .of_writes [main_v76, main_v77, main_cst_10, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102] rfl (ListAll.forall_mem_of_all_decide (by decide +kernel))

theorem opsS1_plain : Plain (F := F) opsS1 where
  sub := ⟨binary_bufs_sub .., nullary_bufs_sub .., unary_bufs_sub .., binary_bufs_sub ..⟩
  fresh := ⟨rfl, rfl, rfl, rfl⟩
  keeps := .of_writes [main_v103, main_cst_11, main_v104, main_v105] rfl (ListAll.forall_mem_of_all_decide (by decide +kernel))

theorem ops2_plain : Plain (F := F) ops2 where
  sub := ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., reshape_bufs_sub .., binary_bufs_sub .., unary_bufs_sub .., unary_bufs_sub .., reshape_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., nullary_bufs_sub ..⟩
  fresh := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
  keeps := .of_writes [main_cst_12, main_v106, main_cst_13, main_v107, main_v108, main_v109, main_v110, main_v111, main_v112, main_cst_14, main_v113, main_v114, main_v115, main_v116, main_v117, main_v118, main_v119, main_v120, main_v121, main_v122, main_v123, main_v124, main_v125, main_v126, main_v127, main_v128, main_cst_15, main_v129, main_v130, main_cst_16, main_v131, main_v132, main_c_17] rfl (ListAll.forall_mem_of_all_decide (by decide +kernel))

theorem ops2_1_plain : Plain (F := F) ops2_1 where
  sub := ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
  fresh := ⟨rfl, rfl, rfl, rfl, rfl, rfl, rfl, rfl, rfl, rfl, rfl, rfl, rfl, rfl, rfl, rfl, rfl, rfl, rfl, rfl, rfl, rfl, rfl⟩
  keeps := .of_writes [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v133] rfl (ListAll.forall_mem_of_all_decide (by decide +kernel))

theorem ops2_2_part2_plain : Plain (F := F) ops2_2_part2 where
  sub := ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub ..⟩
  fresh := ⟨rfl, rfl, rfl, rfl, rfl, rfl, rfl, rfl, rfl, rfl, rfl, rfl, rfl, rfl, rfl, rfl, rfl, rfl, rfl, rfl, rfl, rfl, rfl, rfl, rfl, rfl⟩
  keeps := .of_writes [main_v134, main_v135, main_cst_18, main_v136, main_v137, main_v138, main_v139, main_v140, main_v141, main_v142, main_v143, main_v144, main_v145, main_v146, main_v147, main_cst_19, main_v148, main_cst_20, main_v149, main_v150, main_v151, main_v152, main_v153, main_v154, main_cst_21, main_v155] rfl (ListAll.forall_mem_of_all_decide (by decide +kernel))

theorem ops2_2_part3_plain : Plain (F := F) ops2_2_part3 where
  sub := ⟨unary_bufs_sub .., unary_bufs_sub .., binary_bufs_sub .., nullary_bufs_sub .., binary_bufs_sub ..⟩
  fresh := ⟨rfl, rfl, rfl, rfl, rfl⟩
  keeps := .of_writes [main_v156, main_v157, main_v158, main_cst_22, main_v159] rfl (ListAll.forall_mem_of_all_decide (by decide +kernel))

theorem ops2_3_plain : Plain (F := F) ops2_3 where
  sub := ⟨nullary_bufs_sub .., nullary_bufs_sub .., nullary_bufs_sub .., quaternary_bufs_sub .., quaternary_bufs_sub ..⟩
  fresh := ⟨rfl, rfl, rfl, rfl, rfl⟩
  keeps := .of_writes [main_call3_v0, main_call3_cst, main_call3_c, main_call3_v1_0, main_v160] rfl (ListAll.forall_mem_of_all_decide (by decide +kernel))

theorem ops2_4_plain : Plain (F := F) ops2_4 where
  sub := ⟨unary_bufs_sub .., nullary_bufs_sub .., unary_bufs_sub .., unary_bufs_sub .., binary_bufs_sub .., unary_bufs_sub ..⟩
  fresh := ⟨rfl, rfl, rfl, rfl, rfl, rfl⟩
  keeps := .of_writes [main_call4_v0, main_call4_v1, main_call4_v2, main_call4_v3, main_call4_v4, main_v161] rfl (ListAll.forall_mem_of_all_decide (by decide +kernel))

theorem ops2_5_plain : Plain (F := F) ops2_5 where
  sub := ⟨nullary_bufs_sub .., unary_bufs_sub .., binary_bufs_sub ..⟩
  fresh := ⟨rfl, rfl, rfl⟩
  keeps := .of_writes [main_call5_call0_c, main_call5_call0_v0, main_v162] rfl (ListAll.forall_mem_of_all_decide (by decide +kernel))

theorem ops2_6_plain : Plain (F := F) ops2_6 where
  sub := ⟨binary_bufs_sub .., nullary_bufs_sub .., unary_bufs_sub .., binary_bufs_sub .., unary_bufs_sub .., binary_bufs_sub .., binary_bufs_sub .., nullary_bufs_sub .., binary_bufs_sub .., unary_bufs_sub .., nullary_bufs_sub .., binary_bufs_sub .., nullary_bufs_sub .., unary_bufs_sub .., binary_bufs_sub .., binary_bufs_sub .., reshape_bufs_sub ..⟩
  fresh := ⟨rfl, rfl, rfl, rfl, rfl, rfl, rfl, rfl, rfl, rfl, rfl, rfl, rfl, rfl, rfl, rfl, rfl⟩
  keeps := .of_writes [main_v163, main_c_23, main_v164, main_v165, main_v166, main_v167, main_v168, main_c_24, main_v169, main_v170, main_c_25, main_v171, main_c_26, main_v172, main_v173, main_v174, main_v175] rfl (ListAll.forall_mem_of_all_decide (by decide +kernel))

theorem ops2_7_plain : Plain (F := F) ops2_7 where
  sub := ⟨unary_bufs_sub .., nullary_bufs_sub .., unary_bufs_sub .., unary_bufs_sub .., binary_bufs_sub .., unary_bufs_sub ..⟩
  fresh := ⟨rfl, rfl, rfl, rfl, rfl, rfl⟩
  keeps := .of_writes [main_call6_v0, main_call6_v1, main_call6_v2, main_call6_v3, main_call6_v4, main_v176] rfl (ListAll.forall_mem_of_all_decide (by decide +kernel))

theorem ops2_8_plain : Plain (F := F) ops2_8 where
  sub := ⟨unary_bufs_sub .., nullary_bufs_sub .., unary_bufs_sub .., unary_bufs_sub .., binary_bufs_sub .., unary_bufs_sub ..⟩
  fresh := ⟨rfl, rfl, rfl, rfl, rfl, rfl⟩
  keeps := .of_writes [main_call7_v0, main_call7_v1, main_call7_v2, main_call7_v3, main_call7_v4, main_v177] rfl (ListAll.forall_mem_of_all_decide (by decide +kernel))

theorem ops2_9_plain : Plain (F := F) ops2_9 where
  sub := ⟨binary_bufs_sub .., unary_bufs_sub .., unary_bufs_sub .., unary_bufs_sub .., binary_bufs_sub .., unary_bufs_sub .., binary_bufs_sub .., nullary_bufs_sub .., unary_bufs_sub .., binary_bufs_sub .., unary_bufs_sub .., binary_bufs_sub .., binary_bufs_sub .., unary_bufs_sub .., nullary_bufs_sub .., unary_bufs_sub .., binary_bufs_sub .., binary_bufs_sub .., unary_bufs_sub .., binary_bufs_sub .., binary_bufs_sub .., nullary_bufs_sub .., binary_bufs_sub .., unary_bufs_sub .., nullary_bufs_sub .., unary_bufs_sub .., binary_bufs_sub .., nullary_bufs_sub ..⟩
  fresh := ⟨rfl, rfl, rfl, rfl, rfl, rfl, rfl, rfl, rfl, rfl, rfl, rfl, rfl, rfl, rfl, rfl, rfl, rfl, rfl, rfl, rfl, rfl, rfl, rfl, rfl, rfl, rfl, rfl⟩
  keeps := .of_writes [main_v178, main_v179, main_v180, main_v181, main_v182, main_v183, main_v184, main_cst_27, main_v185, main_v186, main_v187, main_v188, main_v189, main_v190, main_cst_28, main_v191, main_v192, main_v193, main_v194, main_v195, main_v196, main_cst_29, main_v197, main_v198, main_cst_30, main_v199, main_v200, main_c_31] rfl (ListAll.forall_mem_of_all_decide (by decide +kernel))

theorem ops2_10_plain : Plain (F := F) ops2_10 where
  sub := ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
  fresh := ⟨rfl, rfl, rfl, rfl, rfl, rfl, rfl, rfl, rfl, rfl, rfl, rfl, rfl, rfl, rfl, rfl, rfl, rfl, rfl, rfl, rfl, rfl, rfl⟩
  keeps := .of_writes [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_v12, main_call8_cst_3, main_call8_v13, main_call8_cst_4, main_call8_call0_v0, main_call8_call0_v1, main_v201] rfl (ListAll.forall_mem_of_all_decide (by decide +kernel))

theorem ops2_11_part3_plain : Plain (F := F) ops2_11_part3 where
  sub := ⟨unary_bufs_sub .., binary_bufs_sub .., nullary_bufs_sub .., unary_bufs_sub ..⟩
  fresh := ⟨rfl, rfl, rfl, rfl⟩
  keeps := .of_writes [main_v202, main_v203, main_cst_32, main_v204] rfl (ListAll.forall_mem_of_all_decide (by decide +kernel))

theorem ops2_11_part4_plain : Plain (F := F) ops2_11_part4 where
  sub := ⟨binary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub ..⟩
  fresh := ⟨rfl, rfl, rfl, rfl, rfl, rfl, rfl, rfl, rfl, rfl, rfl, rfl⟩
  keeps := .of_writes [main_v205, main_v206, main_v207, main_v208, main_v209, main_v210, main_v211, main_v212, main_v213, main_v214, main_cst_33, main_v215] rfl (ListAll.forall_mem_of_all_decide (by decide +kernel))

/-- All of @main. -/
theorem ops_plain : Plain (F := F) ops :=
  ops0_plain.append (opsS0_plain.append (ops1_plain.append (ops1_1_plain.append ((ops1_2_part0_plain.append ops1_2_part1_plain).append (ops1_3_plain.append (ops1_4_plain.append (opsS1_plain.append (ops2_plain.append (ops2_1_plain.append ((ops2_2_part2_plain.append ops2_2_part3_plain).append (ops2_3_plain.append (ops2_4_plain.append (ops2_5_plain.append (ops2_6_plain.append (ops2_7_plain.append (ops2_8_plain.append (ops2_9_plain.append (ops2_10_plain.append ((ops2_11_part3_plain.append ops2_11_part4_plain))))))))))))))))))))

/-- Nothing of the reference is scoped to a part of the run. -/
theorem scopedRefs_eq : (Finset.univ.filter fun b : Ref sig .tc => b.isScoped) = ∅ := by decide +kernel

/-- Nor any semaphore. -/
theorem scopedSems_eq : (Finset.univ.filter fun sm : SemLoc sig => sm.isScoped .tc) = ∅ := by decide +kernel

/-- The run: every buffer of the TensorCore ends at the contents the line of operations computes from the launch. -/
theorem run (m : (ℓ : Loc nD τ sig) → Buf (Elt F) ℓ) (g : Dev nD → PrngReg) :
    θ_run (defs (F := F)) (onTc (τ := τ) (main (F := F))) ⟨m, fun _ => 0, g⟩
      (fun r => ∀ (c : Dev nD) (b : Ref sig .tc), r.2.mem (c.tc.loc b) = after ops (launchContents m c) (Proc.devRef .tc b)) :=
  run_seq scopedRefs_eq scopedSems_eq defs main (fun _ => ops) main_eq (fun _ => ops_plain.sub) m g
    (fun _ => List.forall_iff_forall_mem.1 ops_plain.fresh)

/-- An argument array ends as it was launched. -/
theorem arg_kept (m : (ℓ : Loc nD τ sig) → Buf (Elt F) ℓ) (c : Dev nD) (b : Ref sig .tc) (hb : b ∈ args) :
    after (ops (F := F)) (launchContents m c) (Proc.devRef .tc b) = m (c.tc.loc b) :=
  ops_plain.keeps b hb _

end Cert.Proof.Ref

end
-- ==== Proof.Scores.lean ====
/- The scores of one attention layer, kernel against reference. The kernel computes them one head at a time, in a pipeline
   of sixteen points, each a product of a block of queries with a block of keys divided by eight; the reference computes
   one batched product over all heads. Over ideal floats the two are the same array, and so the step from a layer's
   queries and keys to its scores keeps the agreement of the two programs. -/
module

public import proofs.«01_k».proof.Proof.Gen.KernelIdeal.Frame
public import proofs.«01_k».proof.Proof.RefRun
public import proofs.«01_k».proof.Proof.Tables
public import Idealize.ShloMosaic.Lib.Pipeline.ValueKit.Point

@[expose] public section

set_option maxRecDepth 16384

noncomputable section

namespace Cert.Proof

open Idealize.ShloMosaic Idealize.ShloMosaic.StableHlo Idealize.SL.Sem
open Cert.KernelIdeal Cert.KernelIdeal.Gen

/-- The scores of all heads, from the queries and the keys head by head: `q kᵀ / 8`. -/
def headScores (q k : FVec Ideal KernelIdeal.S16x2048x64 .f32) : FVec Ideal KernelIdeal.S16x2048x2048 .f32 := fun j =>
  FloatOps.divf (∑ d : Fin 64, q (ix3 (j 0) (j 1) d) * k (ix3 (j 0) (j 2) d)) (Scalar.ofBits .f32 0x41000000#32)

/-- The reference's scores, from the queries and the keys with their batch axis, its operations in order. -/
def refScores (q k : FVec Ideal ReferenceIdeal.S1x16x2048x64 .f32) : FVec Ideal ReferenceIdeal.S1x16x2048x2048 .f32 :=
  Host.divf
    (Host.dotGeneral ReferenceIdeal.dot_S1x16x2048x64_S1x16x2048x64_S1x16x2048x2048_3_3_2_2_01_01 none q k)
    (broadcastInDim ReferenceIdeal.S1x16x2048x2048 ![] ReferenceIdeal.Facts₀.bcast_S_S1x16x2048x2048 (constant ReferenceIdeal.S_ .f32 0x41000000#32))

/-- The kernel's scores with their batch axis put in front are the reference's. -/
theorem headScores_eq (q k : FVec Ideal KernelIdeal.S1x16x2048x64 .f32) :
    broadcastInDim KernelIdeal.S1x16x2048x2048 ![1, 2, 3] KernelIdeal.Facts₀.bcast_S16x2048x2048_S1x16x2048x2048_1_2_3
      (headScores (shapeCast KernelIdeal.S16x2048x64 q KernelIdeal.Facts₀.shapeCasts_S1x16x2048x64_S16x2048x64)
        (shapeCast KernelIdeal.S16x2048x64 k KernelIdeal.Facts₀.shapeCasts_S1x16x2048x64_S16x2048x64))
      = refScores q k := by
  funext j
  idx_vars j
  obtain rfl : j0 = 0 := Subsingleton.elim _ _
  pointwise [headScores, refScores]

/-! ## Layer 0 -/

/-- What one point of the pipeline computes, read at an index. -/
theorem pay0_apply (x0 x1 : Vec Ideal KernelIdeal.S1x2048x64 .f32) (y : KernelIdeal.S1x2048x2048.Idx) :
    k0_pay1 x0 x1 y = FloatOps.divf (∑ d : Fin 64, x0 (ix3 0 (y 1) d) * x1 (ix3 0 (y 2) d)) (Scalar.ofBits .f32 0x41000000#32) := by
  idx_vars y
  pointwise [k0_pay1]

/-- The block indices of the windows (decided). -/
theorem idx0 : ∀ t : Fin cfg0.N, win0_0.index t = ![t.val, 0, 0] ∧ win0_1.index t = ![t.val, 0, 0] ∧ win0_2.index t = ![t.val, 0, 0] :=
  (by decide +kernel : ∀ t : Fin grid0.N, _)

/-- The pipeline leaves the scores of all heads in its output array. -/
theorem region0 (V : (c : Dev nD) → (b : Ref KernelIdeal.sig .tc) → Buf (Elt Ideal) ((c.tc : Thread nD τ).loc b)) (c : Dev nD) :
    (dat0 V c).arrAt 2 cfg0.N = headScores (V c main_v14) (V c main_v15) := by
  refine (dat0 V c).arrAt_eq_of_covers 2 _ (by decide +kernel) fun t hf y => ?_
  blk_simp
  rw [after0_2]
  unfold out0_2
  frame_out
  rw [pay0_apply]
  unfold headScores
  blk_point [iblk0, idx0 t]

/-- The two reshapes at the end of the stretch before the pipeline lay out the queries and the keys head by head. -/
theorem entry0 (U : Valuation KernelIdeal.τ KernelIdeal.sig (Elt Ideal)) :
    (after (hostOps0.drop 14) U (Proc.devRef .tc main_v14)
        = (shapeCast KernelIdeal.S16x2048x64 (U (Proc.devRef .tc main_v9) : FVec Ideal KernelIdeal.S1x16x2048x64 .f32)
            KernelIdeal.Facts₀.shapeCasts_S1x16x2048x64_S16x2048x64 : FVec Ideal KernelIdeal.S16x2048x64 .f32))
    ∧ (after (hostOps0.drop 14) U (Proc.devRef .tc main_v15)
        = (shapeCast KernelIdeal.S16x2048x64 (U (Proc.devRef .tc main_v11) : FVec Ideal KernelIdeal.S1x16x2048x64 .f32)
            KernelIdeal.Facts₀.shapeCasts_S1x16x2048x64_S16x2048x64 : FVec Ideal KernelIdeal.S16x2048x64 .f32))
    ∧ after (hostOps0.drop 14) U (Proc.devRef .tc main_v9) = U (Proc.devRef .tc main_v9)
    ∧ after (hostOps0.drop 14) U (Proc.devRef .tc main_v11) = U (Proc.devRef .tc main_v11) := by
  refine ⟨by after_reads_simp; rfl, by after_reads_simp; rfl, ?_, ?_⟩ <;> after_reads_simp

/-- The broadcast after the pipeline puts the batch axis in front. -/
theorem bcast0 (U : Valuation KernelIdeal.τ KernelIdeal.sig (Elt Ideal)) :
    (after [hostOps1.head (List.cons_ne_nil _ _)] U (Proc.devRef .tc main_v17) : FVec Ideal KernelIdeal.S1x16x2048x2048 .f32)
        = broadcastInDim KernelIdeal.S1x16x2048x2048 ![1, 2, 3] KernelIdeal.Facts₀.bcast_S16x2048x2048_S1x16x2048x2048_1_2_3
            (U (Proc.devRef .tc main_v16) : FVec Ideal KernelIdeal.S16x2048x2048 .f32) := by
  simp only [List.head_cons]
  after_reads_simp

/-- The reference's operations from the queries and the keys to the scores. -/
theorem refRead0 (V' : Valuation ReferenceIdeal.τ ReferenceIdeal.sig (Elt Ideal)) :
    after Ref.opsS0 V' (Proc.devRef .tc ReferenceIdeal.main_v16)
      = refScores (V' (Proc.devRef .tc ReferenceIdeal.main_v9)) (V' (Proc.devRef .tc ReferenceIdeal.main_v11)) := by
  after_reads_simp
  rfl

/-- What the reference writes on the way. -/
abbrev refW0 : List (Ref ReferenceIdeal.sig .tc) := [ReferenceIdeal.main_v14, ReferenceIdeal.main_cst, ReferenceIdeal.main_v15, ReferenceIdeal.main_v16]

/-- Of the pairs that agree after the scores, one is the scores; every other agreed before, and neither program's
    operations in between write it. -/
theorem pairs0 : ∀ p ∈ live_scores0, p = (main_v17, ReferenceIdeal.main_v16)
    ∨ (p ∈ live0 ∧ p.1 ≠ main_v17 ∧ p.1 ≠ main_v16 ∧ p.2 ∉ refW0) :=
  ListAll.forall_mem_of_all_decide (by decide +kernel)

variable (m : (ℓ : Loc nD τ KernelIdeal.sig) → Buf (Elt Ideal) ℓ) (ρ : Dev nD → PrngReg) in
/-- The pipeline and the broadcast after it, beside the reference's scores. -/
theorem scores0 (c : Dev nD) (V' : Valuation ReferenceIdeal.τ ReferenceIdeal.sig (Elt Ideal))
    (h : Sim live0 (W1 m ρ c) V') :
    Sim live_scores0 (after [hostOps1.head (List.cons_ne_nil _ _)] (W2 m ρ c)) (after Ref.opsS0 V') := by
  intro p hp
  rcases pairs0 p hp with rfl | ⟨hin, h1, h2, h3⟩
  · have hq : (W1 m ρ c (Proc.devRef .tc main_v9) : FVec Ideal KernelIdeal.S1x16x2048x64 .f32) = V' (Proc.devRef .tc ReferenceIdeal.main_v9) :=
      eq_of_heq (h (main_v9, ReferenceIdeal.main_v9) (by decide +kernel))
    have hk : (W1 m ρ c (Proc.devRef .tc main_v11) : FVec Ideal KernelIdeal.S1x16x2048x64 .f32) = V' (Proc.devRef .tc ReferenceIdeal.main_v11) :=
      eq_of_heq (h (main_v11, ReferenceIdeal.main_v11) (by decide +kernel))
    have hs : W1 m ρ c = after (hostOps0.drop 14) (after (hostOps0.take 14) (W0 m ρ c)) := by
      rw [← after_append, List.take_append_drop]
    obtain ⟨e1, e2, e3, e4⟩ := entry0 (after (hostOps0.take 14) (W0 m ρ c))
    rw [← hs] at e1 e2 e3 e4
    rw [← e3] at e1
    rw [← e4] at e2
    have ho : (W2 m ρ c (Proc.devRef .tc main_v16) : FVec Ideal KernelIdeal.S16x2048x2048 .f32)
        = headScores (W1 m ρ c (Proc.devRef .tc main_v14)) (W1 m ρ c (Proc.devRef .tc main_v15)) :=
      (W2_arr m ρ c 2).trans (region0 (V1 m ρ) c)
    have hl : (after [hostOps1.head (List.cons_ne_nil _ _)] (W2 m ρ c) (Proc.devRef .tc main_v17) : FVec Ideal KernelIdeal.S1x16x2048x2048 .f32)
        = after Ref.opsS0 V' (Proc.devRef .tc ReferenceIdeal.main_v16) := by
      rw [bcast0, ho, e1, e2, headScores_eq, hq, hk, refRead0]
    exact heq_of_eq hl
  · have hk : after [hostOps1.head (List.cons_ne_nil _ _)] (W2 m ρ c) (Proc.devRef .tc p.1) = W1 m ρ c (Proc.devRef .tc p.1) := by
      refine (after_unwritten [main_v17] rfl (by simpa using h1) _).trans (W2_of m ρ c p.1 fun w hw => ?_)
      match w, hw with
      | 0, _ => rfl
      | 1, _ => rfl
      | 2, hw => exact absurd hw.symm h2
    have hk' : after Ref.opsS0 V' (Proc.devRef .tc p.2) = V' (Proc.devRef .tc p.2) := after_unwritten refW0 rfl h3 _
    rw [hk, hk']
    exact h p hin

/-! ## Layer 1 -/

/-- What one point of the pipeline computes, read at an index. -/
theorem pay1_apply (x0 x1 : Vec Ideal KernelIdeal.S1x2048x64 .f32) (y : KernelIdeal.S1x2048x2048.Idx) :
    k1_pay1 x0 x1 y = FloatOps.divf (∑ d : Fin 64, x0 (ix3 0 (y 1) d) * x1 (ix3 0 (y 2) d)) (Scalar.ofBits .f32 0x41000000#32) := by
  idx_vars y
  pointwise [k1_pay1]

/-- The block indices of the windows (decided). -/
theorem idx1 : ∀ t : Fin cfg1.N, win1_0.index t = ![t.val, 0, 0] ∧ win1_1.index t = ![t.val, 0, 0] ∧ win1_2.index t = ![t.val, 0, 0] :=
  (by decide +kernel : ∀ t : Fin grid1.N, _)

/-- The pipeline leaves the scores of all heads in its output array. -/
theorem region1 (V : (c : Dev nD) → (b : Ref KernelIdeal.sig .tc) → Buf (Elt Ideal) ((c.tc : Thread nD τ).loc b)) (c : Dev nD) :
    (dat1 V c).arrAt 2 cfg1.N = headScores (V c main_v104) (V c main_v105) := by
  refine (dat1 V c).arrAt_eq_of_covers 2 _ (by decide +kernel) fun t hf y => ?_
  blk_simp
  rw [after1_2]
  unfold out1_2
  frame_out
  rw [pay1_apply]
  unfold headScores
  blk_point [iblk1, idx1 t]

/-- The two reshapes at the end of the stretch before the pipeline lay out the queries and the keys head by head. -/
theorem entry1 (U : Valuation KernelIdeal.τ KernelIdeal.sig (Elt Ideal)) :
    (after (hostOps1_4.drop 28) U (Proc.devRef .tc main_v104)
        = (shapeCast KernelIdeal.S16x2048x64 (U (Proc.devRef .tc main_v99) : FVec Ideal KernelIdeal.S1x16x2048x64 .f32)
            KernelIdeal.Facts₀.shapeCasts_S1x16x2048x64_S16x2048x64 : FVec Ideal KernelIdeal.S16x2048x64 .f32))
    ∧ (after (hostOps1_4.drop 28) U (Proc.devRef .tc main_v105)
        = (shapeCast KernelIdeal.S16x2048x64 (U (Proc.devRef .tc main_v101) : FVec Ideal KernelIdeal.S1x16x2048x64 .f32)
            KernelIdeal.Facts₀.shapeCasts_S1x16x2048x64_S16x2048x64 : FVec Ideal KernelIdeal.S16x2048x64 .f32))
    ∧ after (hostOps1_4.drop 28) U (Proc.devRef .tc main_v99) = U (Proc.devRef .tc main_v99)
    ∧ after (hostOps1_4.drop 28) U (Proc.devRef .tc main_v101) = U (Proc.devRef .tc main_v101) := by
  refine ⟨by after_reads_simp; rfl, by after_reads_simp; rfl, ?_, ?_⟩ <;> after_reads_simp

/-- The broadcast after the pipeline puts the batch axis in front. -/
theorem bcast1 (U : Valuation KernelIdeal.τ KernelIdeal.sig (Elt Ideal)) :
    (after [hostOps2.head (List.cons_ne_nil _ _)] U (Proc.devRef .tc main_v107) : FVec Ideal KernelIdeal.S1x16x2048x2048 .f32)
        = broadcastInDim KernelIdeal.S1x16x2048x2048 ![1, 2, 3] KernelIdeal.Facts₀.bcast_S16x2048x2048_S1x16x2048x2048_1_2_3
            (U (Proc.devRef .tc main_v106) : FVec Ideal KernelIdeal.S16x2048x2048 .f32) := by
  simp only [List.head_cons]
  after_reads_simp

/-- The reference's operations from the queries and the keys to the scores. -/
theorem refRead1 (V' : Valuation ReferenceIdeal.τ ReferenceIdeal.sig (Elt Ideal)) :
    after Ref.opsS1 V' (Proc.devRef .tc ReferenceIdeal.main_v105)
      = refScores (V' (Proc.devRef .tc ReferenceIdeal.main_v98)) (V' (Proc.devRef .tc ReferenceIdeal.main_v100)) := by
  after_reads_simp
  rfl

/-- What the reference writes on the way. -/
abbrev refW1 : List (Ref ReferenceIdeal.sig .tc) := [ReferenceIdeal.main_v103, ReferenceIdeal.main_cst_11, ReferenceIdeal.main_v104, ReferenceIdeal.main_v105]

/-- Of the pairs that agree after the scores, one is the scores; every other agreed before, and neither program's
    operations in between write it. -/
theorem pairs1 : ∀ p ∈ live_scores1, p = (main_v107, ReferenceIdeal.main_v105)
    ∨ (p ∈ live1_4 ∧ p.1 ≠ main_v107 ∧ p.1 ≠ main_v106 ∧ p.2 ∉ refW1) :=
  ListAll.forall_mem_of_all_decide (by decide +kernel)

variable (m : (ℓ : Loc nD τ KernelIdeal.sig) → Buf (Elt Ideal) ℓ) (ρ : Dev nD → PrngReg) in
/-- The pipeline and the broadcast after it, beside the reference's scores. -/
theorem scores1 (c : Dev nD) (V' : Valuation ReferenceIdeal.τ ReferenceIdeal.sig (Elt Ideal))
    (h : Sim live1_4 (W7 m ρ c) V') :
    Sim live_scores1 (after [hostOps2.head (List.cons_ne_nil _ _)] (W8 m ρ c)) (after Ref.opsS1 V') := by
  intro p hp
  rcases pairs1 p hp with rfl | ⟨hin, h1, h2, h3⟩
  · have hq : (W7 m ρ c (Proc.devRef .tc main_v99) : FVec Ideal KernelIdeal.S1x16x2048x64 .f32) = V' (Proc.devRef .tc ReferenceIdeal.main_v98) :=
      eq_of_heq (h (main_v99, ReferenceIdeal.main_v98) (by decide +kernel))
    have hk : (W7 m ρ c (Proc.devRef .tc main_v101) : FVec Ideal KernelIdeal.S1x16x2048x64 .f32) = V' (Proc.devRef .tc ReferenceIdeal.main_v100) :=
      eq_of_heq (h (main_v101, ReferenceIdeal.main_v100) (by decide +kernel))
    have hs : W7 m ρ c = after (hostOps1_4.drop 28) (after (hostOps1_4.take 28) (W6 m ρ c)) := by
      rw [← after_append, List.take_append_drop]
    obtain ⟨e1, e2, e3, e4⟩ := entry1 (after (hostOps1_4.take 28) (W6 m ρ c))
    rw [← hs] at e1 e2 e3 e4
    rw [← e3] at e1
    rw [← e4] at e2
    have ho : (W8 m ρ c (Proc.devRef .tc main_v106) : FVec Ideal KernelIdeal.S16x2048x2048 .f32)
        = headScores (W7 m ρ c (Proc.devRef .tc main_v104)) (W7 m ρ c (Proc.devRef .tc main_v105)) :=
      (W8_arr m ρ c 2).trans (region1 (V7 m ρ) c)
    have hl : (after [hostOps2.head (List.cons_ne_nil _ _)] (W8 m ρ c) (Proc.devRef .tc main_v107) : FVec Ideal KernelIdeal.S1x16x2048x2048 .f32)
        = after Ref.opsS1 V' (Proc.devRef .tc ReferenceIdeal.main_v105) := by
      rw [bcast1, ho, e1, e2, headScores_eq, hq, hk, refRead1]
    exact heq_of_eq hl
  · have hk : after [hostOps2.head (List.cons_ne_nil _ _)] (W8 m ρ c) (Proc.devRef .tc p.1) = W7 m ρ c (Proc.devRef .tc p.1) := by
      refine (after_unwritten [main_v107] rfl (by simpa using h1) _).trans (W8_of m ρ c p.1 fun w hw => ?_)
      match w, hw with
      | 0, _ => rfl
      | 1, _ => rfl
      | 2, hw => exact absurd hw.symm h2
    have hk' : after Ref.opsS1 V' (Proc.devRef .tc p.2) = V' (Proc.devRef .tc p.2) := after_unwritten refW1 rfl h3 _
    rw [hk, hk']
    exact h p hin

end Cert.Proof

end
-- ==== Proof.Result.lean ====
/- The kernel's result and the reference's, over ideal floats, launched on the same arguments: the host stretches of the
   two programs run side by side (Lines*.lean), the scores of both layers by Scores.lean. -/
module

public import proofs.«01_k».proof.Proof.LinesA
public import proofs.«01_k».proof.Proof.LinesB
public import proofs.«01_k».proof.Proof.LinesC
public import proofs.«01_k».proof.Proof.LinesD
public import proofs.«01_k».proof.Proof.LinesE
public import proofs.«01_k».proof.Proof.Scores

@[expose] public section

set_option maxRecDepth 16384

noncomputable section

namespace Cert.Proof

open Idealize.ShloMosaic Idealize.ShloMosaic.StableHlo Idealize.SL.Sem
open Cert.KernelIdeal Cert.KernelIdeal.Gen

variable (m : (ℓ : Loc KernelIdeal.nD KernelIdeal.τ KernelIdeal.sig) → Buf (Elt Ideal) ℓ) (ρ : Dev KernelIdeal.nD → PrngReg)

/-- From agreement on the arguments to agreement on the results. -/
theorem result_sim (c : Dev KernelIdeal.nD) (V' : Valuation ReferenceIdeal.τ ReferenceIdeal.sig (Elt Ideal))
    (h : Sim live_start (W0 m ρ c) V') : Sim live2_11 (W20 m ρ c) (after Ref.ops V') := by
  simp only [Ref.ops]
  repeat rw [after_append]
  have h := scores0 m ρ c _ (line0 _ _ h)
  have h := line1_4 _ _ (line1_3 _ _ (line1_2 _ _ (line1_1 _ _ (line1 _ _ h))))
  have h := scores1 m ρ c _ h
  have h := line2_4 _ _ (line2_3 _ _ (line2_2 _ _ (line2_1 _ _ (line2 _ _ h))))
  have h := line2_8 _ _ (line2_7 _ _ (line2_6 _ _ (line2_5 _ _ h)))
  exact line2_11 _ _ (line2_10 _ _ (line2_9 _ _ h))

/-- The results themselves. -/
theorem result_eq (c : Dev KernelIdeal.nD) (V' : Valuation ReferenceIdeal.τ ReferenceIdeal.sig (Elt Ideal))
    (h : Sim live_start (W0 m ρ c) V') :
    (after Ref.ops V' (Proc.devRef .tc ReferenceIdeal.main_v215) : FVec Ideal KernelIdeal.S_ .f32)
      = W20 m ρ c (Proc.devRef .tc KernelIdeal.main_v217) :=
  (eq_of_heq (result_sim m ρ c V' h (KernelIdeal.main_v217, ReferenceIdeal.main_v215) (by decide +kernel)) :
    (W20 m ρ c (Proc.devRef .tc KernelIdeal.main_v217) : FVec Ideal KernelIdeal.S_ .f32) = _).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.Result
public import Idealize.ShloMosaic.Adequacy
public import Idealize.ShloMosaic.Init

@[expose] public section

noncomputable section

namespace Cert.Proof

open Idealize.ShloMosaic Idealize.ShloMosaic.StableHlo Idealize.SL.Sem

/-- The reference ends with its arguments as launched and every semaphore counter at zero. -/
theorem reference_frame : Cert.quiescent_ReferenceIdeal := by
  intro m g _
  refine (θ_run _ _ _).mono (fun r h => ⟨fun c => ?_, sem_eq_zero_of_no_sems (by decide) r.2⟩) (Ref.run (F := Ideal) m g)
  have k (b) (hb : b ∈ Ref.args) := (h c b).trans (Ref.arg_kept m c b hb)
  exact ⟨k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel)⟩

/-- Over ideal floats the kernel's result is the reference's. -/
theorem algebraic : Cert.algebraic_KernelIdeal_ReferenceIdeal := by
  intro m g m' g' _ hargs
  refine ⟨fun c => Cert.KernelIdeal.Gen.W20 m g c (Proc.devRef .tc Cert.KernelIdeal.main_v217), ?_, ?_⟩
  · refine (θ_run _ _ _).mono (fun r h c => ⟨?_, h.1.1 c⟩)
      (θ_run_and (Cert.KernelIdeal.Gen.frame (F := Ideal) m g) (Kernel.run (F := Ideal) m g))
    exact h.2 c _ (Cert.KernelIdeal.Gen.mem_uc Cert.KernelIdeal.main_v217 (by decide))
  · refine (θ_run _ _ _).mono (fun r h c => ?_) (Ref.run (F := Ideal) m' g')
    have k (b) (hb : b ∈ Ref.args) := (h c b).trans (Ref.arg_kept m' c b hb)
    refine ⟨?_, k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel), k _ (by decide +kernel)⟩
    refine (h c Cert.ReferenceIdeal.main_v215).trans (result_eq m g c _ ?_)
    obtain ⟨h0, h1, h2, h3, h4, h5, h6, h7, h8, h9, h10, h11, h12, h13, h14, h15, h16, h17, h18, h19, h20, h21, h22, h23⟩ := hargs c
    simp only [Sim, List.forall_mem_cons, List.not_mem_nil, false_imp_iff, implies_true, and_true]
    exact ⟨(heq_of_eq h0).symm, (heq_of_eq h1).symm, (heq_of_eq h2).symm, (heq_of_eq h3).symm, (heq_of_eq h4).symm, (heq_of_eq h5).symm, (heq_of_eq h6).symm, (heq_of_eq h7).symm, (heq_of_eq h8).symm, (heq_of_eq h9).symm, (heq_of_eq h10).symm, (heq_of_eq h11).symm, (heq_of_eq h12).symm, (heq_of_eq h13).symm, (heq_of_eq h14).symm, (heq_of_eq h15).symm, (heq_of_eq h16).symm, (heq_of_eq h17).symm, (heq_of_eq h18).symm, (heq_of_eq h19).symm, (heq_of_eq h20).symm, (heq_of_eq h21).symm, (heq_of_eq h22).symm, (heq_of_eq h23).symm⟩

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
